-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x4096 : Shape := ⟨2, ![8192, 4096]⟩
abbrev S8192x128 : Shape := ⟨2, ![8192, 128]⟩
abbrev S2x8192x512 : Shape := ⟨3, ![2, 8192, 512]⟩
abbrev S32x256x128 : Shape := ⟨3, ![32, 256, 128]⟩
abbrev S2x4 : Shape := ⟨2, ![2, 4]⟩
abbrev S32 : Shape := ⟨1, ![32]⟩
abbrev S_ : Shape := ⟨0, ![]⟩
abbrev S1x1 : Shape := ⟨2, ![1, 1]⟩
abbrev S1x8192x128 : Shape := ⟨3, ![1, 8192, 128]⟩
abbrev S1x8192x512 : Shape := ⟨3, ![1, 8192, 512]⟩
abbrev S8192x512 : Shape := ⟨2, ![8192, 512]⟩
abbrev S256x512 : Shape := ⟨2, ![256, 512]⟩
abbrev S256x128 : Shape := ⟨2, ![256, 128]⟩
abbrev S1x256x128 : Shape := ⟨3, ![1, 256, 128]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S256x8192, .f32⟩
  | .hbm, ⟨1, _⟩ => ⟨S8192x4096, .f32⟩
  | .hbm, ⟨2, _⟩ => ⟨S8192x128, .f32⟩
  | .local _ .vmem, ⟨0, _⟩ => ⟨S256x8192, .f32⟩
  | .local _ .vmem, ⟨1, _⟩ => ⟨S8192x128, .f32⟩
  | .local _ .vmem, ⟨2, _⟩ => ⟨S2x8192x512, .f32⟩
  | .local _ .vmem, ⟨3, _⟩ => ⟨S32x256x128, .bf16⟩
  | .local _ .vmem, ⟨4, _⟩ => ⟨S32x256x128, .bf16⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c0_i32_125 : BitVec 32) (c0_i32_126 : BitVec 32) : Fin 2 → Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.addi v2 c0_i32_125
  let v129 : BitVec 32 := Scalar.addi v128 c0_i32_126
  let c32_i32_127 : BitVec 32 := 32#32
  let v130 : BitVec 32 := Scalar.remsi v129 c32_i32_127
  let c128_i32 : BitVec 32 := 128#32
  let v131 : BitVec 32 := Scalar.muli v130 c128_i32
  ![0, v131.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v243 : Index := Scalar.indexCast v2
  let c0_246 : Index := 0#32
  let c0_247 : Index := 0#32
  ![v243.toNat, 0, 0]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_256 : BitVec 32 := 0#32
  let c0_i32_257 : BitVec 32 := 0#32
  ![v2.toNat, 0, 0]
def k0_dev32 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_248 : BitVec 32 := 1#32
  let v247 : BitVec 32 := Scalar.addi v2 c1_i32_248
  let c32_i32_249 : BitVec 32 := 32#32
  let v248 : BitVec 32 := Scalar.remsi v247 c32_i32_249
  let c1_i32_254 : BitVec 32 := 1#32
  let v254 : BitVec 32 := Scalar.muli v248 c1_i32_254
  let v255 : BitVec 32 := Scalar.addi c0_i32_255 v254
  v255.toNat
def k0_dev33 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_260 : BitVec 32 := 2#32
  let v264 : BitVec 32 := Scalar.addi v2 c2_i32_260
  let c32_i32_261 : BitVec 32 := 32#32
  let v265 : BitVec 32 := Scalar.remsi v264 c32_i32_261
  let c1_i32_266 : BitVec 32 := 1#32
  let v271 : BitVec 32 := Scalar.muli v265 c1_i32_266
  let v272 : BitVec 32 := Scalar.addi c0_i32_267 v271
  v272.toNat
def k0_dev34 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_272 : BitVec 32 := 3#32
  let v281 : BitVec 32 := Scalar.addi v2 c3_i32_272
  let c32_i32_273 : BitVec 32 := 32#32
  let v282 : BitVec 32 := Scalar.remsi v281 c32_i32_273
  let c1_i32_278 : BitVec 32 := 1#32
  let v288 : BitVec 32 := Scalar.muli v282 c1_i32_278
  let v289 : BitVec 32 := Scalar.addi c0_i32_279 v288
  v289.toNat
def k0_dev35 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_370 : BitVec 32 := 4#32
  let v375 : BitVec 32 := Scalar.addi v2 c4_i32_370
  let c32_i32_371 : BitVec 32 := 32#32
  let v376 : BitVec 32 := Scalar.remsi v375 c32_i32_371
  let c1_i32_376 : BitVec 32 := 1#32
  let v382 : BitVec 32 := Scalar.muli v376 c1_i32_376
  let v383 : BitVec 32 := Scalar.addi c0_i32_377 v382
  v383.toNat
def k0_dev36 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_382 : BitVec 32 := 5#32
  let v392 : BitVec 32 := Scalar.addi v2 c5_i32_382
  let c32_i32_383 : BitVec 32 := 32#32
  let v393 : BitVec 32 := Scalar.remsi v392 c32_i32_383
  let c1_i32_388 : BitVec 32 := 1#32
  let v399 : BitVec 32 := Scalar.muli v393 c1_i32_388
  let v400 : BitVec 32 := Scalar.addi c0_i32_389 v399
  v400.toNat
def k0_dev37 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_394 : BitVec 32 := 6#32
  let v409 : BitVec 32 := Scalar.addi v2 c6_i32_394
  let c32_i32_395 : BitVec 32 := 32#32
  let v410 : BitVec 32 := Scalar.remsi v409 c32_i32_395
  let c1_i32_400 : BitVec 32 := 1#32
  let v416 : BitVec 32 := Scalar.muli v410 c1_i32_400
  let v417 : BitVec 32 := Scalar.addi c0_i32_401 v416
  v417.toNat
def k0_dev38 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_406 : BitVec 32 := 7#32
  let v426 : BitVec 32 := Scalar.addi v2 c7_i32_406
  let c32_i32_407 : BitVec 32 := 32#32
  let v427 : BitVec 32 := Scalar.remsi v426 c32_i32_407
  let c1_i32_412 : BitVec 32 := 1#32
  let v433 : BitVec 32 := Scalar.muli v427 c1_i32_412
  let v434 : BitVec 32 := Scalar.addi c0_i32_413 v433
  v434.toNat
def k0_dev39 (d0 : Dev nD) : Nat :=
  let c0_i32_511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_504 : BitVec 32 := 8#32
  let v520 : BitVec 32 := Scalar.addi v2 c8_i32_504
  let c32_i32_505 : BitVec 32 := 32#32
  let v521 : BitVec 32 := Scalar.remsi v520 c32_i32_505
  let c1_i32_510 : BitVec 32 := 1#32
  let v527 : BitVec 32 := Scalar.muli v521 c1_i32_510
  let v528 : BitVec 32 := Scalar.addi c0_i32_511 v527
  v528.toNat
def k0_dev40 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_516 : BitVec 32 := 9#32
  let v537 : BitVec 32 := Scalar.addi v2 c9_i32_516
  let c32_i32_517 : BitVec 32 := 32#32
  let v538 : BitVec 32 := Scalar.remsi v537 c32_i32_517
  let c1_i32_522 : BitVec 32 := 1#32
  let v544 : BitVec 32 := Scalar.muli v538 c1_i32_522
  let v545 : BitVec 32 := Scalar.addi c0_i32_523 v544
  v545.toNat
def k0_dev41 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_528 : BitVec 32 := 10#32
  let v554 : BitVec 32 := Scalar.addi v2 c10_i32_528
  let c32_i32_529 : BitVec 32 := 32#32
  let v555 : BitVec 32 := Scalar.remsi v554 c32_i32_529
  let c1_i32_534 : BitVec 32 := 1#32
  let v561 : BitVec 32 := Scalar.muli v555 c1_i32_534
  let v562 : BitVec 32 := Scalar.addi c0_i32_535 v561
  v562.toNat
def k0_dev42 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_540 : BitVec 32 := 11#32
  let v571 : BitVec 32 := Scalar.addi v2 c11_i32_540
  let c32_i32_541 : BitVec 32 := 32#32
  let v572 : BitVec 32 := Scalar.remsi v571 c32_i32_541
  let c1_i32_546 : BitVec 32 := 1#32
  let v578 : BitVec 32 := Scalar.muli v572 c1_i32_546
  let v579 : BitVec 32 := Scalar.addi c0_i32_547 v578
  v579.toNat
def k0_dev43 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_638 : BitVec 32 := 12#32
  let v665 : BitVec 32 := Scalar.addi v2 c12_i32_638
  let c32_i32_639 : BitVec 32 := 32#32
  let v666 : BitVec 32 := Scalar.remsi v665 c32_i32_639
  let c1_i32_644 : BitVec 32 := 1#32
  let v672 : BitVec 32 := Scalar.muli v666 c1_i32_644
  let v673 : BitVec 32 := Scalar.addi c0_i32_645 v672
  v673.toNat
def k0_dev44 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_650 : BitVec 32 := 13#32
  let v682 : BitVec 32 := Scalar.addi v2 c13_i32_650
  let c32_i32_651 : BitVec 32 := 32#32
  let v683 : BitVec 32 := Scalar.remsi v682 c32_i32_651
  let c1_i32_656 : BitVec 32 := 1#32
  let v689 : BitVec 32 := Scalar.muli v683 c1_i32_656
  let v690 : BitVec 32 := Scalar.addi c0_i32_657 v689
  v690.toNat
def k0_dev45 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_662 : BitVec 32 := 14#32
  let v699 : BitVec 32 := Scalar.addi v2 c14_i32_662
  let c32_i32_663 : BitVec 32 := 32#32
  let v700 : BitVec 32 := Scalar.remsi v699 c32_i32_663
  let c1_i32_668 : BitVec 32 := 1#32
  let v706 : BitVec 32 := Scalar.muli v700 c1_i32_668
  let v707 : BitVec 32 := Scalar.addi c0_i32_669 v706
  v707.toNat
def k0_dev46 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_674 : BitVec 32 := 15#32
  let v716 : BitVec 32 := Scalar.addi v2 c15_i32_674
  let c32_i32_675 : BitVec 32 := 32#32
  let v717 : BitVec 32 := Scalar.remsi v716 c32_i32_675
  let c1_i32_680 : BitVec 32 := 1#32
  let v723 : BitVec 32 := Scalar.muli v717 c1_i32_680
  let v724 : BitVec 32 := Scalar.addi c0_i32_681 v723
  v724.toNat
def k0_dev47 (d0 : Dev nD) : Nat :=
  let c0_i32_779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_772 : BitVec 32 := 16#32
  let v810 : BitVec 32 := Scalar.addi v2 c16_i32_772
  let c32_i32_773 : BitVec 32 := 32#32
  let v811 : BitVec 32 := Scalar.remsi v810 c32_i32_773
  let c1_i32_778 : BitVec 32 := 1#32
  let v817 : BitVec 32 := Scalar.muli v811 c1_i32_778
  let v818 : BitVec 32 := Scalar.addi c0_i32_779 v817
  v818.toNat
def k0_dev48 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_784 : BitVec 32 := 17#32
  let v827 : BitVec 32 := Scalar.addi v2 c17_i32_784
  let c32_i32_785 : BitVec 32 := 32#32
  let v828 : BitVec 32 := Scalar.remsi v827 c32_i32_785
  let c1_i32_790 : BitVec 32 := 1#32
  let v834 : BitVec 32 := Scalar.muli v828 c1_i32_790
  let v835 : BitVec 32 := Scalar.addi c0_i32_791 v834
  v835.toNat
def k0_dev49 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_796 : BitVec 32 := 18#32
  let v844 : BitVec 32 := Scalar.addi v2 c18_i32_796
  let c32_i32_797 : BitVec 32 := 32#32
  let v845 : BitVec 32 := Scalar.remsi v844 c32_i32_797
  let c1_i32_802 : BitVec 32 := 1#32
  let v851 : BitVec 32 := Scalar.muli v845 c1_i32_802
  let v852 : BitVec 32 := Scalar.addi c0_i32_803 v851
  v852.toNat
def k0_dev50 (d0 : Dev nD) : Nat :=
  let c0_i32_815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_808 : BitVec 32 := 19#32
  let v861 : BitVec 32 := Scalar.addi v2 c19_i32_808
  let c32_i32_809 : BitVec 32 := 32#32
  let v862 : BitVec 32 := Scalar.remsi v861 c32_i32_809
  let c1_i32_814 : BitVec 32 := 1#32
  let v868 : BitVec 32 := Scalar.muli v862 c1_i32_814
  let v869 : BitVec 32 := Scalar.addi c0_i32_815 v868
  v869.toNat
def k0_dev51 (d0 : Dev nD) : Nat :=
  let c0_i32_913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_906 : BitVec 32 := 20#32
  let v955 : BitVec 32 := Scalar.addi v2 c20_i32_906
  let c32_i32_907 : BitVec 32 := 32#32
  let v956 : BitVec 32 := Scalar.remsi v955 c32_i32_907
  let c1_i32_912 : BitVec 32 := 1#32
  let v962 : BitVec 32 := Scalar.muli v956 c1_i32_912
  let v963 : BitVec 32 := Scalar.addi c0_i32_913 v962
  v963.toNat
def k0_dev52 (d0 : Dev nD) : Nat :=
  let c0_i32_925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_918 : BitVec 32 := 21#32
  let v972 : BitVec 32 := Scalar.addi v2 c21_i32_918
  let c32_i32_919 : BitVec 32 := 32#32
  let v973 : BitVec 32 := Scalar.remsi v972 c32_i32_919
  let c1_i32_924 : BitVec 32 := 1#32
  let v979 : BitVec 32 := Scalar.muli v973 c1_i32_924
  let v980 : BitVec 32 := Scalar.addi c0_i32_925 v979
  v980.toNat
def k0_dev53 (d0 : Dev nD) : Nat :=
  let c0_i32_937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_930 : BitVec 32 := 22#32
  let v989 : BitVec 32 := Scalar.addi v2 c22_i32_930
  let c32_i32_931 : BitVec 32 := 32#32
  let v990 : BitVec 32 := Scalar.remsi v989 c32_i32_931
  let c1_i32_936 : BitVec 32 := 1#32
  let v996 : BitVec 32 := Scalar.muli v990 c1_i32_936
  let v997 : BitVec 32 := Scalar.addi c0_i32_937 v996
  v997.toNat
def k0_dev54 (d0 : Dev nD) : Nat :=
  let c0_i32_949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_942 : BitVec 32 := 23#32
  let v1006 : BitVec 32 := Scalar.addi v2 c23_i32_942
  let c32_i32_943 : BitVec 32 := 32#32
  let v1007 : BitVec 32 := Scalar.remsi v1006 c32_i32_943
  let c1_i32_948 : BitVec 32 := 1#32
  let v1013 : BitVec 32 := Scalar.muli v1007 c1_i32_948
  let v1014 : BitVec 32 := Scalar.addi c0_i32_949 v1013
  v1014.toNat
def k0_dev55 (d0 : Dev nD) : Nat :=
  let c0_i32_1047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1040 : BitVec 32 := 24#32
  let v1100 : BitVec 32 := Scalar.addi v2 c24_i32_1040
  let c32_i32_1041 : BitVec 32 := 32#32
  let v1101 : BitVec 32 := Scalar.remsi v1100 c32_i32_1041
  let c1_i32_1046 : BitVec 32 := 1#32
  let v1107 : BitVec 32 := Scalar.muli v1101 c1_i32_1046
  let v1108 : BitVec 32 := Scalar.addi c0_i32_1047 v1107
  v1108.toNat
def k0_dev56 (d0 : Dev nD) : Nat :=
  let c0_i32_1059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1052 : BitVec 32 := 25#32
  let v1117 : BitVec 32 := Scalar.addi v2 c25_i32_1052
  let c32_i32_1053 : BitVec 32 := 32#32
  let v1118 : BitVec 32 := Scalar.remsi v1117 c32_i32_1053
  let c1_i32_1058 : BitVec 32 := 1#32
  let v1124 : BitVec 32 := Scalar.muli v1118 c1_i32_1058
  let v1125 : BitVec 32 := Scalar.addi c0_i32_1059 v1124
  v1125.toNat
def k0_dev57 (d0 : Dev nD) : Nat :=
  let c0_i32_1071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1064 : BitVec 32 := 26#32
  let v1134 : BitVec 32 := Scalar.addi v2 c26_i32_1064
  let c32_i32_1065 : BitVec 32 := 32#32
  let v1135 : BitVec 32 := Scalar.remsi v1134 c32_i32_1065
  let c1_i32_1070 : BitVec 32 := 1#32
  let v1141 : BitVec 32 := Scalar.muli v1135 c1_i32_1070
  let v1142 : BitVec 32 := Scalar.addi c0_i32_1071 v1141
  v1142.toNat
def k0_dev58 (d0 : Dev nD) : Nat :=
  let c0_i32_1083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1076 : BitVec 32 := 27#32
  let v1151 : BitVec 32 := Scalar.addi v2 c27_i32_1076
  let c32_i32_1077 : BitVec 32 := 32#32
  let v1152 : BitVec 32 := Scalar.remsi v1151 c32_i32_1077
  let c1_i32_1082 : BitVec 32 := 1#32
  let v1158 : BitVec 32 := Scalar.muli v1152 c1_i32_1082
  let v1159 : BitVec 32 := Scalar.addi c0_i32_1083 v1158
  v1159.toNat
def k0_dev59 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1134 : BitVec 32 := 28#32
  let v1209 : BitVec 32 := Scalar.addi v2 c28_i32_1134
  let c32_i32_1135 : BitVec 32 := 32#32
  let v1210 : BitVec 32 := Scalar.remsi v1209 c32_i32_1135
  let c1_i32_1140 : BitVec 32 := 1#32
  let v1216 : BitVec 32 := Scalar.muli v1210 c1_i32_1140
  let v1217 : BitVec 32 := Scalar.addi c0_i32_1141 v1216
  v1217.toNat
def k0_dev60 (d0 : Dev nD) : Nat :=
  let c0_i32_1153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1146 : BitVec 32 := 29#32
  let v1226 : BitVec 32 := Scalar.addi v2 c29_i32_1146
  let c32_i32_1147 : BitVec 32 := 32#32
  let v1227 : BitVec 32 := Scalar.remsi v1226 c32_i32_1147
  let c1_i32_1152 : BitVec 32 := 1#32
  let v1233 : BitVec 32 := Scalar.muli v1227 c1_i32_1152
  let v1234 : BitVec 32 := Scalar.addi c0_i32_1153 v1233
  v1234.toNat
def k0_dev61 (d0 : Dev nD) : Nat :=
  let c0_i32_1165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1158 : BitVec 32 := 30#32
  let v1243 : BitVec 32 := Scalar.addi v2 c30_i32_1158
  let c32_i32_1159 : BitVec 32 := 32#32
  let v1244 : BitVec 32 := Scalar.remsi v1243 c32_i32_1159
  let c1_i32_1164 : BitVec 32 := 1#32
  let v1250 : BitVec 32 := Scalar.muli v1244 c1_i32_1164
  let v1251 : BitVec 32 := Scalar.addi c0_i32_1165 v1250
  v1251.toNat
def k0_dev62 (d0 : Dev nD) : Nat :=
  let c0_i32_1177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1170 : BitVec 32 := 31#32
  let v1260 : BitVec 32 := Scalar.addi v2 c31_i32_1170
  let c32_i32_1171 : BitVec 32 := 32#32
  let v1261 : BitVec 32 := Scalar.remsi v1260 c32_i32_1171
  let c1_i32_1176 : BitVec 32 := 1#32
  let v1267 : BitVec 32 := Scalar.muli v1261 c1_i32_1176
  let v1268 : BitVec 32 := Scalar.addi c0_i32_1177 v1267
  v1268.toNat
def k0_off5 (d0 : Dev nD) (c1_i32_1182 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1277 : BitVec 32 := Scalar.addi v2 c1_i32_1182
  let c32_i32_1183 : BitVec 32 := 32#32
  let v1278 : BitVec 32 := Scalar.remsi v1277 c32_i32_1183
  let c0_i32_1189 : BitVec 32 := 0#32
  let c0_i32_1190 : BitVec 32 := 0#32
  ![v1278.toNat, 0, 0]
def k0_off6 (d0 : Dev nD) (c1_i32_1182 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1277 : BitVec 32 := Scalar.addi v2 c1_i32_1182
  let c32_i32_1183 : BitVec 32 := 32#32
  let v1278 : BitVec 32 := Scalar.remsi v1277 c32_i32_1183
  ![v1278.toNat]
abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Bits.Printed.lean ====
/-
The printed body is the program with loops of Program.lean, by definitional unfolding.
-/
module

public import proofs.«01_k».proof.Proof.Bits.Program

@[expose] public section

noncomputable section

namespace Cert.Kernel.Rot

open Cert.Kernel Cert.Kernel.Gen
open Idealize.ShloMosaic Idealize.SL.Sem

variable {F : FTy → Type} [FloatOps F]

set_option maxRecDepth 65536 in
set_option maxHeartbeats 4000000 in
/-- The printed body, on the call's arrays, is the program above. -/
theorem body_eq (t : Fin cfg0.N) : bodyAt0 (F := F) t = prog := rfl

end Cert.Kernel.Rot

end
-- ==== Proof.Ideal.Program.lean ====
/-
The kernel's body as a program written with loops: the barrier, the four weight copies in flight, the eight steps
(start the next step's copies, wait for this step's, multiply, send four blocks), the thirty-one pairs of waits, and
the cast of the received blocks. The printed body is this program by definitional unfolding (`body_eq`, Printed.lean).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Rot

open Cert.KernelIdeal Cert.KernelIdeal.Gen
open Idealize.ShloMosaic Idealize.ShloMosaic.TcCoe Idealize.SL.Sem

variable {F : FTy → Type} [FloatOps F]

abbrev PG (F : FTy → Type) [FloatOps F] (α : Type) : Type 1 := Prog (TpuEff nD τ sig (Elt F) Λ₀ .tc) α

/-- `n` turns of `f`, from turn `k` on, in order. -/
def loop {N : ℕ} (f : Fin N → PG F PUnit) : (n k : ℕ) → k + n ≤ N → PG F PUnit
  | 0, _, _ => pure ⟨⟩
  | n + 1, k, h => (f ⟨k, Nat.lt_of_lt_of_le (Nat.lt_add_of_pos_right n.succ_pos) h⟩).bind fun _ =>
      loop f n (k + 1) (by omega)

/-! ## The arrays and semaphores -/

abbrev xM : Memref sig .tc .vmem S256x8192 .f32 := Memref.whole cc0_stg0_0
abbrev wM : Memref sig .tc .hbm S8192x4096 .f32 := Memref.whole main_arg1
abbrev oM : Memref sig .tc .vmem S8192x128 .f32 := Memref.whole cc0_stg1_0
abbrev wbM : Memref sig .tc .vmem S2x8192x512 .f32 := Memref.whole cc0_scratch0
abbrev yM : Memref sig .tc .vmem S32x256x128 .bf16 := Memref.whole cc0_scratch1
abbrev rM : Memref sig .tc .vmem S32x256x128 .bf16 := Memref.whole cc0_scratch2

/-- The runtime's barrier semaphore of collective id 0. -/
abbrev barS : Sem sig := (SemArray.scalar (sig.barrier 0 rfl) : Sems sig S_).sem

theorem wsem_inb (t j : ℕ) (ht : t < 2) (hj : j < 4) : ∀ a, (![t, j] : Fin 2 → Nat) a + S1x1.size a ≤ S2x4.size a := by
  intro a; fin_cases a
  · show t + 1 ≤ 2; omega
  · show j + 1 ≤ 4; omega

theorem wslot_inb (t j : ℕ) (ht : t < 2) (hj : j < 4) :
    ∀ a, (![t, 0, 128 * j] : Fin 3 → Nat) a + S1x8192x128.size a ≤ S2x8192x512.size a := by
  intro a; fin_cases a
  · show t + 1 ≤ 2; omega
  · show 0 + 8192 ≤ 8192; omega
  · show 128 * j + 128 ≤ 512; omega

theorem wload_inb (t : ℕ) (ht : t < 2) :
    ∀ a, (![t, 0, 0] : Fin 3 → Nat) a + S1x8192x512.size a ≤ S2x8192x512.size a := by
  intro a; fin_cases a
  · show t + 1 ≤ 2; omega
  · show 0 + 8192 ≤ 8192; omega
  · show 0 + 512 ≤ 512; omega

theorem slot_inb (s : ℕ) (hs : s < 32) : ∀ a, (![s, 0, 0] : Fin 3 → Nat) a + S1x256x128.size a ≤ S32x256x128.size a := by
  intro a; fin_cases a
  · show s + 1 ≤ 32; omega
  · show 0 + 256 ≤ 256; omega
  · show 0 + 128 ≤ 128; omega

theorem sem_inb (s : ℕ) (hs : s < 32) : ∀ a, (![s] : Fin 1 → Nat) a + S1.size a ≤ S32.size a := by
  intro a; fin_cases a
  show s + 1 ≤ 32; omega

theorem slot_packed : ∀ s : Fin 32, (Rect.unit (s := S32x256x128) ![s.val, 0, 0] S1x256x128.size (slot_inb s.val s.isLt)).PackedRows (EltTy.packing .bf16) := by
  decide +kernel
theorem slot_words : ∀ s : Fin 32, (Rect.unit (s := S32x256x128) ![s.val, 0, 0] S1x256x128.size (slot_inb s.val s.isLt)).WholeWords (EltTy.packing .bf16) := by
  decide +kernel

theorem col_slices : ∀ j : Fin 4, S256x512.Slices ![0, 128 * j.val] S256x128 := by decide

/-! ## The devices and offsets the body computes -/

/-- The device `s` places on, as a word. -/
def placeW (c : Dev nD) (s : BitVec 32) : BitVec 32 :=
  Scalar.remsi (Scalar.addi (Scalar.remsi (Scalar.divsi (Dev.word c) 1#32) 32#32) s) 32#32

/-- Its logical id as the kernel computes it. -/
def devOf (c : Dev nD) (s : BitVec 32) : ℕ := (Scalar.addi 0#32 (Scalar.muli (placeW c s) 1#32)).toNat

theorem devOf_eq : ∀ (s : Fin 32) (c : Dev nD), devOf c (BitVec.ofNat 32 s.val) = (c.val + s.val) % 32 := by decide +kernel
theorem devOf_lt (s : Fin 32) (c : Dev nD) : devOf c (BitVec.ofNat 32 s.val) < nD := by
  rw [devOf_eq]; exact Nat.mod_lt _ (by decide)

abbrev devF (c : Dev nD) (s : Fin 32) : Dev nD := ⟨devOf c (BitVec.ofNat 32 s.val), devOf_lt s c⟩

/-- Turn `i` of a loop over the distances 1…31. -/
abbrev dist (i : Fin 31) : Fin 32 := ⟨1 + i.val, by omega⟩

/-! ## The pieces -/

abbrev wSem (t : Fin 2) (j : Fin 4) : DmaSems sig S_ :=
  ((cc0_scratch3 : DmaSems sig S2x4).slice (Rect.unit (s := S2x4) ![t.val, j.val] S1x1.size (wsem_inb _ _ t.isLt j.isLt))).squeeze S_ squeezes_S1x1_S_
abbrev sSem (s : Fin 32) : DmaSems sig S_ :=
  ((cc0_scratch4 : DmaSems sig S32).slice (Rect.unit (s := S32) ![s.val] S1.size (sem_inb _ s.isLt))).squeeze S_ squeezes_S1_S_
/-- The receive semaphore at a slot given by its offset vector. -/
abbrev rSemAt (off : Fin 1 → ℕ) (h : ∀ a, off a + S1.size a ≤ S32.size a) : DmaSems sig S_ :=
  ((cc0_scratch5 : DmaSems sig S32).slice (Rect.unit (s := S32) off S1.size h)).squeeze S_ squeezes_S1_S_

abbrev wbV (t : Fin 2) (j : Fin 4) : Memref sig .tc .vmem S8192x128 .f32 :=
  (wbM.slice (Rect.unit (s := S2x8192x512) ![t.val, 0, 128 * j.val] S1x8192x128.size (wslot_inb _ _ t.isLt j.isLt)) (fun _ => rfl)).squeeze S8192x128 squeezes_S1x8192x128_S8192x128
abbrev wV (c : Dev nD) (t : Fin 8) (j : Fin 4) : Memref sig .tc .hbm S8192x128 .f32 :=
  wM.slice (Rect.unit (s := S8192x4096) (k0_off1 c (BitVec.ofNat 32 (4 * t.val)) (BitVec.ofNat 32 j.val)) S8192x128.size (k0_off1_inb c t j)) (fun _ => rfl)
abbrev yV (s : Fin 32) : Memref sig .tc .vmem S256x128 .bf16 :=
  (yM.slice (Rect.unit (s := S32x256x128) ![s.val, 0, 0] S1x256x128.size (slot_inb _ s.isLt)) (fun _ => rfl)).squeeze S256x128 squeezes_S1x256x128_S256x128
/-- The received block at a slot given by its offset vector. -/
abbrev rVAt (off : Fin 3 → ℕ) (h : ∀ a, off a + S1x256x128.size a ≤ S32x256x128.size a) : Memref sig .tc .vmem S256x128 .bf16 :=
  (rM.slice (Rect.unit (s := S32x256x128) off S1x256x128.size h) (fun _ => rfl)).squeeze S256x128 squeezes_S1x256x128_S256x128

/-- The slot of the weight buffer step `t` uses. -/
abbrev half (t : Fin 8) : Fin 2 := ⟨t.val % 2, Nat.mod_lt _ (by decide)⟩
/-- The distance block `j` of step `t` travels. -/
abbrev far (t : Fin 8) (j : Fin 4) : Fin 32 := ⟨4 * t.val + j.val, by omega⟩

/-- The product of the device's rows with a step's 512 columns. -/
def prod (x : Vec F S256x8192 .f32) (w : Vec F S1x8192x512 .f32) : FVec F S256x512 .f32 := k0_pay1 x w
/-- Column block `j` of it, narrowed to bf16. -/
def colBlk (j : Fin 4) (y : FVec F S256x512 .f32) : FVec F S256x128 .bf16 :=
  truncf .bf16 (extractStridedSlice S256x128 ![0, 128 * j.val] y (col_slices j)) bitsLt_bf16_f32
def colBlk3 (j : Fin 4) (y : FVec F S256x512 .f32) : FVec F S1x256x128 .bf16 :=
  shapeCast S1x256x128 (colBlk j y) shapeCasts_S256x128_S1x256x128
/-- The thirty-two received blocks, one above the other, widened to f32. -/
def widen (v : Vec F S32x256x128 .bf16) : FVec F S8192x128 .f32 := k0_pay48 v

/-! ## The program -/

def sigStep (c : Dev nD) (i : Fin 31) : PG F PUnit := semSignalWord (devF c (dist i)) barS 1#32

def startW (c : Dev nD) (t : Fin 8) (j : Fin 4) : PG F PUnit :=
  Prog.lift (.enqueueDma (wV c t j) (.here (wbV (half t) j)) (.dma (wSem (half t) j).sem) (View.wordExact_bits rfl)
    ((View.wordExact_bits rfl).reshape _ _) ⟨Or.inl rfl, trivial⟩)

def waitW (c : Dev nD) (t : Fin 8) (j : Fin 4) : PG F PUnit :=
  Prog.lift (.waitDma2 (wSem (half t) j).sem (wV c t j) (wbV (half t) j) (View.wordExact_bits rfl) ((View.wordExact_bits rfl).reshape _ _))

def loadX : PG F (Vec F S256x8192 .f32) :=
  Prog.lift (.load xM (Rect.unit (s := S256x8192) ![0, 0] S256x8192.size inb_S256x8192_S256x8192_0_0).toLoadRect (View.loadsAt_vmem h_S256x8192))

def loadW (t : Fin 2) : PG F (Vec F S1x8192x512 .f32) :=
  Prog.lift (.load wbM (Rect.unit (s := S2x8192x512) ![t.val, 0, 0] S1x8192x512.size (wload_inb _ t.isLt)).toLoadRect (View.loadsAt_vmem h_S1x8192x512))

/-- Distance 0: the device keeps the block. -/
def keep (c : Dev nD) (v : FVec F S1x256x128 .bf16) : PG F PUnit :=
  (Prog.lift (.load rM (Rect.unit (s := S32x256x128) (k0_off2 c) S1x256x128.size (k0_off2_inb c)).toLoadRect (View.loadsAt_vmem h_S1x256x128)) : PG F (Vec F S1x256x128 .bf16)).bind fun _ =>
  Prog.lift (.store rM (Rect.unit (s := S32x256x128) (k0_off2 c) S1x256x128.size (k0_off2_inb c)) v Finset.univ
    (View.stores_vmem h_S1x256x128 ((Memref.isWhole_whole _).storeExact_slice rfl _ (k0_off2_packedbf16 c)) (fun _ => rfl)) (.inl rfl))

/-- Distance `s`: the device stages the block and sends it. -/
def send (c : Dev nD) (s : Fin 32) (v : FVec F S1x256x128 .bf16) : PG F PUnit :=
  (Prog.lift (.load yM (Rect.unit (s := S32x256x128) ![s.val, 0, 0] S1x256x128.size (slot_inb _ s.isLt)).toLoadRect (View.loadsAt_vmem h_S1x256x128)) : PG F (Vec F S1x256x128 .bf16)).bind fun _ =>
  (Prog.lift (.store yM (Rect.unit (s := S32x256x128) ![s.val, 0, 0] S1x256x128.size (slot_inb _ s.isLt)) v Finset.univ
    (View.stores_vmem h_S1x256x128 ((Memref.isWhole_whole _).storeExact_slice rfl _ (slot_packed s)) (fun _ => rfl)) (.inl rfl)) : PG F PUnit).bind fun _ =>
  Prog.lift (.enqueueDma (yV s) (.remote (Dev.tc (devF c s)) (rVAt (k0_off4 c) (k0_off4_inb c)) (.dma (sSem s).sem)) (.dma (rSemAt (k0_off3 c) (k0_off3_inb c)).sem)
    (((Memref.isWhole_whole _).wordExact_slice rfl _ (slot_words s)).reshape _ _) (((Memref.isWhole_whole _).wordExact_slice rfl _ (k0_off4_wordsbf16 c)).reshape _ _) ⟨⟨rfl, Or.inl rfl⟩, trivial⟩)

def emit (c : Dev nD) (t : Fin 8) (y : FVec F S256x512 .f32) (j : Fin 4) : PG F PUnit :=
  if 4 * t.val + j.val = 0 then keep c (colBlk3 j y) else send c (far t j) (colBlk3 j y)

/-- A step after its copies are started: wait for them, multiply, send. -/
def mainStep (c : Dev nD) (t : Fin 8) : PG F PUnit :=
  (loop (waitW c t) 4 0 (Nat.le_refl _)).bind fun _ =>
  loadX.bind fun x => (loadW (half t)).bind fun w =>
  loop (emit c t (prod x w)) 4 0 (Nat.le_refl _)

def step (c : Dev nD) (t : Fin 7) : PG F PUnit :=
  (loop (startW c ⟨t.val + 1, by omega⟩) 4 0 (Nat.le_refl _)).bind fun _ => mainStep c ⟨t.val, by omega⟩

def drain (c : Dev nD) (i : Fin 31) : PG F PUnit :=
  (Prog.lift (.waitDma2 (sSem (dist i)).sem (rVAt (k0_off5 c (BitVec.ofNat 32 (1 + i.val))) (k0_off5_inb c i)) (yV (dist i))
    (((Memref.isWhole_whole _).wordExact_slice rfl _ (k0_off5_wordsbf16 c i)).reshape _ _) (((Memref.isWhole_whole _).wordExact_slice rfl _ (slot_words (dist i))).reshape _ _)) : PG F PUnit).bind fun _ =>
  Prog.lift (.waitDma2 (rSemAt (k0_off6 c (BitVec.ofNat 32 (1 + i.val))) (k0_off6_inb c i)).sem (yV (dist i)) (rVAt (k0_off5 c (BitVec.ofNat 32 (1 + i.val))) (k0_off5_inb c i))
    (((Memref.isWhole_whole _).wordExact_slice rfl _ (slot_words (dist i))).reshape _ _) (((Memref.isWhole_whole _).wordExact_slice rfl _ (k0_off5_wordsbf16 c i)).reshape _ _))

def finish : PG F PUnit :=
  (Prog.lift (.load rM (Rect.unit (s := S32x256x128) ![0, 0, 0] S32x256x128.size inb_S32x256x128_S32x256x128_0_0_0).toLoadRect (View.loadsAt_vmem h_S32x256x128)) : PG F (Vec F S32x256x128 .bf16)).bind fun v =>
  (Prog.lift (.load oM (Rect.unit (s := S8192x128) ![0, 0] S8192x128.size inb_S8192x128_S8192x128_0_0).toLoadRect (View.loadsAt_vmem h_S8192x128)) : PG F (Vec F S8192x128 .f32)).bind fun _ =>
  Prog.lift (.store oM (Rect.unit (s := S8192x128) ![0, 0] S8192x128.size inb_S8192x128_S8192x128_0_0) (widen v) Finset.univ (View.stores_vmem_bits_univ h_S8192x128 rfl) (.inl rfl))

/-- The body on device `c`. -/
def run (c : Dev nD) : PG F PUnit :=
  (loop (sigStep c) 31 0 (Nat.le_refl _)).bind fun _ =>
  (semWaitWord barS 31#32 : PG F PUnit).bind fun _ =>
  (loop (startW c 0) 4 0 (Nat.le_refl _)).bind fun _ =>
  (loop (step c) 7 0 (Nat.le_refl _)).bind fun _ =>
  (mainStep c 7).bind fun _ =>
  (loop (drain c) 31 0 (Nat.le_refl _)).bind fun _ =>
  finish

def prog : PG F PUnit := (Prog.lift .deviceId : PG F (Dev nD)).bind run

end Cert.KernelIdeal.Rot

end
-- ==== Proof.Ideal.Contents.lean ====
/-
The regions of the buffers the kernel moves, by coordinates, and what each holds: the staged rows, the weight's column
blocks, the blocks a device computes (by the distance they travel) and the blocks it receives (by their sender).
Every content is written as ONE valuation of a whole buffer, so that regions of a buffer filled one at a time join.
-/
module

public import proofs.«01_k».proof.Proof.Ideal.Program
public import Idealize.ShloMosaic.Lib.ValueLayout
public import Idealize.ShloMosaic.Lib.Pipeline.Launch
public import Idealize.ShloMosaic.Lib.Pipeline.Kit
public import Idealize.ShloMosaic.Lib.Tactic

@[expose] public section

noncomputable section

namespace Cert.KernelIdeal.Rot

open Cert.KernelIdeal Cert.KernelIdeal.Gen
open Idealize.ShloMosaic Idealize.ShloMosaic.TcCoe Idealize.SL.Sem
open Idealize.ShloMosaic.ValueIdx

variable {F : FTy → Type} [FloatOps F]

/-! ## The regions -/

/-- Slot `s` of a buffer of thirty-two 256×128 blocks. -/
abbrev slotR (s : Fin 32) : Rect S32x256x128 := Rect.unit (s := S32x256x128) ![s.val, 0, 0] S1x256x128.size (slot_inb _ s.isLt)
/-- Column block `j` of slot `t` of the weight buffer. -/
abbrev wbR (t : Fin 2) (j : Fin 4) : Rect S2x8192x512 :=
  Rect.unit (s := S2x8192x512) ![t.val, 0, 128 * j.val] S1x8192x128.size (wslot_inb _ _ t.isLt j.isLt)

theorem col_inb (b : ℕ) (hb : b < 32) : ∀ a, (![0, 128 * b] : Fin 2 → Nat) a + S8192x128.size a ≤ S8192x4096.size a := by
  intro a; fin_cases a
  · show 0 + 8192 ≤ 8192; omega
  · show 128 * b + 128 ≤ 4096; omega
/-- Column block `b` of the weight. -/
abbrev colR (b : Fin 32) : Rect S8192x4096 := Rect.unit (s := S8192x4096) ![0, 128 * b.val] S8192x128.size (col_inb _ b.isLt)

theorem mem_slot {s : Fin 32} {i : S32x256x128.Idx} : Iff (i ∈ (slotR s).set) (i 0 = s) := by
  rw [Rect.mem_set_unit]
  have h1 : (i 1).val < 256 := (i 1).isLt
  have h2 : (i 2).val < 128 := (i 2).isLt
  constructor
  · intro h
    have h0 : s.val ≤ (i 0).val ∧ (i 0).val < s.val + 1 := h 0
    exact Fin.ext (by omega)
  · rintro rfl a; fin_cases a
    · show (i 0).val ≤ (i 0).val ∧ (i 0).val < (i 0).val + 1; omega
    · show 0 ≤ (i 1).val ∧ (i 1).val < 0 + 256; omega
    · show 0 ≤ (i 2).val ∧ (i 2).val < 0 + 128; omega

theorem mem_wb {t : Fin 2} {j : Fin 4} {i : S2x8192x512.Idx} : Iff (i ∈ (wbR t j).set) (i 0 = t ∧ (i 2).val / 128 = j.val) := by
  rw [Rect.mem_set_unit]
  have h1 : (i 1).val < 8192 := (i 1).isLt
  constructor
  · intro h
    have h0 : t.val ≤ (i 0).val ∧ (i 0).val < t.val + 1 := h 0
    have h2 : 128 * j.val ≤ (i 2).val ∧ (i 2).val < 128 * j.val + 128 := h 2
    exact ⟨Fin.ext (by omega), by omega⟩
  · rintro ⟨rfl, h2⟩ a; fin_cases a
    · show (i 0).val ≤ (i 0).val ∧ (i 0).val < (i 0).val + 1; omega
    · show 0 ≤ (i 1).val ∧ (i 1).val < 0 + 8192; omega
    · show 128 * j.val ≤ (i 2).val ∧ (i 2).val < 128 * j.val + 128; omega

theorem mem_col {b : Fin 32} {i : S8192x4096.Idx} : Iff (i ∈ (colR b).set) ((i 1).val / 128 = b.val) := by
  rw [Rect.mem_set_unit]
  have h0 : (i 0).val < 8192 := (i 0).isLt
  constructor
  · intro h
    have h1 : 128 * b.val ≤ (i 1).val ∧ (i 1).val < 128 * b.val + 128 := h 1
    omega
  · intro h a; fin_cases a
    · show 0 ≤ (i 0).val ∧ (i 0).val < 0 + 8192; omega
    · show 128 * b.val ≤ (i 1).val ∧ (i 1).val < 128 * b.val + 128; omega

theorem slots_disjoint (s s' : Fin 32) (h : s ≠ s') : Disjoint (slotR s).set (slotR s').set :=
  Finset.disjoint_left.mpr fun i hi hi' => h ((mem_slot.mp hi).symm.trans (mem_slot.mp hi'))
theorem wbs_disjoint (t : Fin 2) (j j' : Fin 4) (h : j ≠ j') : Disjoint (wbR t j).set (wbR t j').set :=
  Finset.disjoint_left.mpr fun i hi hi' => h (Fin.ext ((mem_wb.mp hi).2.symm.trans (mem_wb.mp hi').2))
theorem wbs_disjoint' (p p' : Fin 2 × Fin 4) (h : p ≠ p') : Disjoint (wbR p.1 p.2).set (wbR p'.1 p'.2).set :=
  Finset.disjoint_left.mpr fun i hi hi' => h (Prod.ext ((mem_wb.mp hi).1.symm.trans (mem_wb.mp hi').1)
    (Fin.ext ((mem_wb.mp hi).2.symm.trans (mem_wb.mp hi').2)))
theorem cols_disjoint (b b' : Fin 32) (h : b ≠ b') : Disjoint (colR b).set (colR b').set :=
  Finset.disjoint_left.mpr fun i hi hi' => h (Fin.ext ((mem_col.mp hi).symm.trans (mem_col.mp hi')))

theorem slots_cover : (Finset.univ : Finset (Fin 32)).biUnion (fun s => (slotR s).set) = Finset.univ :=
  Finset.eq_univ_iff_forall.mpr fun i => Finset.mem_biUnion.mpr ⟨i 0, Finset.mem_univ _, mem_slot.mpr rfl⟩
theorem wbs_cover : (Finset.univ : Finset (Fin 2 × Fin 4)).biUnion (fun p => (wbR p.1 p.2).set) = Finset.univ :=
  Finset.eq_univ_iff_forall.mpr fun i => by
    have h2 : (i 2).val < 512 := (i 2).isLt
    exact Finset.mem_biUnion.mpr ⟨(i 0, ⟨(i 2).val / 128, by omega⟩), Finset.mem_univ _, mem_wb.mpr ⟨rfl, rfl⟩⟩
theorem cols_cover : (Finset.univ : Finset (Fin 32)).biUnion (fun b => (colR b).set) = Finset.univ :=
  Finset.eq_univ_iff_forall.mpr fun i => by
    have h1 : (i 1).val < 4096 := (i 1).isLt
    exact Finset.mem_biUnion.mpr ⟨⟨(i 1).val / 128, by omega⟩, Finset.mem_univ _, mem_col.mpr rfl⟩

/-! ## The views' elements -/

theorem set_yV (s : Fin 32) : (yV s).view.set = (slotR s).set := by
  show ((View.slice (View.whole cc0_scratch1) (slotR s)).reshape _ _).set = _
  rw [View.set_reshape, View.set_slice_whole]
theorem set_wbV (t : Fin 2) (j : Fin 4) : (wbV t j).view.set = (wbR t j).set := by
  show ((View.slice (View.whole cc0_scratch0) (wbR t j)).reshape _ _).set = _
  rw [View.set_reshape, View.set_slice_whole]
abbrev rV (s : Fin 32) : Memref sig .tc .vmem S256x128 .bf16 := rVAt ![s.val, 0, 0] (slot_inb _ s.isLt)
theorem set_rV (s : Fin 32) : (rV s).view.set = (slotR s).set := by
  show ((View.slice (View.whole cc0_scratch2) (slotR s)).reshape _ _).set = _
  rw [View.set_reshape, View.set_slice_whole]
/-- The column block step `t`'s copy `j` takes on device `c`. -/
abbrev blkNo (c : Dev nD) (t : Fin 8) (j : Fin 4) : Fin 32 := ⟨(c.val + 4 * t.val + j.val) % 32, Nat.mod_lt _ (by decide)⟩
abbrev colV (b : Fin 32) : Memref sig .tc .hbm S8192x128 .f32 := wM.slice (colR b) (fun _ => rfl)
theorem wV_eq (c : Dev nD) (t : Fin 8) (j : Fin 4) : wV c t j = colV (blkNo c t j) := by
  have h : k0_off1 c (BitVec.ofNat 32 (4 * t.val)) (BitVec.ofNat 32 j.val) = ![0, 128 * (blkNo c t j).val] := k0_off1_eq c t j
  unfold wV colV
  congr 1
  exact Rect.unit_congr h _ _
theorem set_colV (b : Fin 32) : (colV b).view.set = (colR b).set := View.set_slice_whole main_arg1 (colR b)

theorem emb_slot (s : Fin 32) (a : Fin 256) (b : Fin 128) (h : S256x128.numel = S1x256x128.numel) :
    (slotR s).emb (Shape.reshapeEquiv h (ix2 a b)) = ix3 s a b := by
  rw [show Shape.reshapeEquiv h (ix2 a b) = ix3 (⟨0, Nat.one_pos⟩ : Fin 1) a b from reshapeEquiv_ix2_1ab h a b]
  funext x; fin_cases x <;> refine Fin.ext ?_
  · show s.val + 1 * 0 = s.val; omega
  · show 0 + 1 * a.val = a.val; omega
  · show 0 + 1 * b.val = b.val; omega

theorem emb_wb (t : Fin 2) (j : Fin 4) (a : Fin 8192) (b : Fin 128) (h : S8192x128.numel = S1x8192x128.numel) :
    (wbR t j).emb (Shape.reshapeEquiv h (ix2 a b)) = ix3 t a (⟨128 * j.val + b.val, by omega⟩ : Fin 512) := by
  rw [show Shape.reshapeEquiv h (ix2 a b) = ix3 (⟨0, Nat.one_pos⟩ : Fin 1) a b from reshapeEquiv_ix2_1ab h a b]
  funext x; fin_cases x <;> refine Fin.ext ?_
  · show t.val + 1 * 0 = t.val; omega
  · show 0 + 1 * a.val = a.val; omega
  · show 128 * j.val + 1 * b.val = 128 * j.val + b.val; omega

theorem emb_col (n : Fin 32) (a : Fin 8192) (b : Fin 128) :
    (colR n).emb (ix2 a b) = ix2 a (⟨128 * n.val + b.val, by omega⟩ : Fin 4096) := by
  funext x; fin_cases x <;> refine Fin.ext ?_
  · show 0 + 1 * a.val = a.val; omega
  · show 128 * n.val + 1 * b.val = 128 * n.val + b.val; omega

/-- A whole view's write agrees, on the view's elements, with any valuation that holds the written values there. -/
theorem write_agrees {sp : Space} {s : Shape} {e : EltTy} {Val : EltTy → Type} (v : View sig .tc sp s e) (f : v.ty.Contents Val) (w : s.Idx → Val e)
    (g : v.ty.Contents Val) (h : ∀ x, g (v.emb x) = _root_.cast (congrArg Val v.elt_eq.symm) (w x)) :
    ∀ i ∈ v.set, v.write Val f w Finset.univ i = g i := by
  intro i hi
  obtain ⟨x, -, rfl⟩ := Finset.mem_map.mp hi
  rw [View.write_emb_of_mem _ _ (Finset.mem_univ x), h]

/-! ## The contents -/

variable (m : (ℓ : Loc nD τ sig) → Buf (Elt F) ℓ)

/-- The device's 256 rows, as staged. -/
def xstg (c : Dev nD) : Vec F S256x8192 .f32 := (win0_0.blk (0 : Fin 1)).view.read (Elt F) (m ((c : Thread nD τ).loc main_arg0))
/-- The weight, as the device holds it. -/
def wmem (c : Dev nD) : Vec F S8192x4096 .f32 := m ((c : Thread nD τ).loc main_arg1)

/-- The 512 columns of the weight step `t` multiplies by: blocks `c + 4t … c + 4t + 3`, around. -/
def wCol (c : Dev nD) (t : Fin 8) : Vec F S1x8192x512 .f32 := fun i =>
  wmem m c (ix2 (show Fin 8192 from i 1) (⟨128 * ((c.val + 4 * t.val + (i 2).val / 128) % 32) + (i 2).val % 128, by omega⟩ : Fin 4096))
/-- A weight-buffer slot in step `t`. -/
def wbF (c : Dev nD) (t : Fin 8) : Vec F S2x8192x512 .f32 := fun i => wCol m c t (ix3 (0 : Fin 1) (show Fin 8192 from i 1) (show Fin 512 from i 2))
/-- The block device `c` computes for the device `s` places on. -/
def blkOf (c : Dev nD) (s : Fin 32) : Vec F S256x128 .bf16 :=
  colBlk (⟨s.val % 4, Nat.mod_lt _ (by decide)⟩ : Fin 4) (prod (xstg m c) (wCol m c (⟨s.val / 4, by omega⟩ : Fin 8)))
/-- All its blocks, by distance. -/
def yF (c : Dev nD) : Vec F S32x256x128 .bf16 := fun i => blkOf m c (show Fin 32 from i 0) (ix2 (show Fin 256 from i 1) (show Fin 128 from i 2))
/-- How many places on `d` is from `src`. -/
def gap (d src : Fin 32) : Fin 32 := ⟨(d.val + 32 - src.val) % 32, Nat.mod_lt _ (by decide)⟩
/-- All the blocks device `d` receives, by sender. -/
def rF (d : Dev nD) : Vec F S32x256x128 .bf16 := fun i =>
  blkOf m (show Fin 32 from i 0) (gap d (show Fin 32 from i 0)) (ix2 (show Fin 256 from i 1) (show Fin 128 from i 2))
/-- The device's result. -/
def outAt (c : Dev nD) : Vec F S8192x128 .f32 := widen (rF m c)

/-- The device `s` places on. -/
abbrev fwd (c : Dev nD) (s : Fin 32) : Dev nD := ⟨(c.val + s.val) % 32, Nat.mod_lt _ (by decide)⟩
theorem devF_eq (c : Dev nD) (s : Fin 32) : devF c s = fwd c s := Fin.ext (devOf_eq s c)
theorem gap_fwd (c : Dev nD) (s : Fin 32) : gap (fwd c s) c = s := by
  refine Fin.ext ?_
  have hc : c.val < 32 := c.isLt
  show ((c.val + s.val) % 32 + 32 - c.val) % 32 = s.val
  omega
theorem gap_self (c : Fin 32) : gap c c = 0 := by
  refine Fin.ext ?_
  show (c.val + 32 - c.val) % 32 = 0
  omega

/-! ## What the transfers, stores and loads do to them -/

/-- A weight copy fills its region with the step's columns. -/
theorem landed_w (c : Dev nD) (t : Fin 8) (j : Fin 4) (fd : Vec F S2x8192x512 .f32) :
    ∀ i ∈ (wbR (half t) j).set, (wbV (half t) j).view.write (Elt F) fd ((colV (blkNo c t j)).view.read (Elt F) (wmem m c)) Finset.univ i = wbF m c t i := by
  rw [← set_wbV]
  refine write_agrees (wbV (half t) j).view fd _ (wbF m c t) fun x => ?_
  have key : ∀ (a : Fin 8192) (b : Fin 128), wbF m c t ((wbR (half t) j).emb (Shape.reshapeEquiv squeezes_S1x8192x128_S8192x128.numel_eq (ix2 a b)))
      = wmem m c ((colR (blkNo c t j)).emb (ix2 a b)) := by
    intro a b
    rw [emb_wb (half t) j a b, emb_col]
    show wmem m c _ = wmem m c _
    congr 1
    congr 1
    refine Fin.ext ?_
    show 128 * ((c.val + 4 * t.val + (128 * j.val + b.val) / 128) % 32) + (128 * j.val + b.val) % 128 = 128 * ((c.val + 4 * t.val + j.val) % 32) + b.val
    rw [show (128 * j.val + b.val) / 128 = j.val by omega, show (128 * j.val + b.val) % 128 = b.val by omega]
  rw [eq_ix2 x]
  exact key (x 0) (x 1)

/-- The step's product's column block is the block of its distance. -/
theorem blk_far (c : Dev nD) (t : Fin 8) (j : Fin 4) : colBlk j (prod (xstg m c) (wCol m c t)) = blkOf m c (far t j) := by
  unfold blkOf
  have h1 : (⟨(far t j).val % 4, Nat.mod_lt _ (by decide)⟩ : Fin 4) = j := Fin.ext (by show (4 * t.val + j.val) % 4 = j.val; omega)
  have h2 : (⟨(far t j).val / 4, by omega⟩ : Fin 8) = t := Fin.ext (by show (4 * t.val + j.val) / 4 = t.val; omega)
  rw [h1, h2]

theorem blk3_apply (j : Fin 4) (y : FVec F S256x512 .f32) (u : Fin 1) (a : Fin 256) (b : Fin 128) :
    colBlk3 j y (ix3 u a b) = colBlk j y (ix2 a b) :=
  shapeCast_apply _ _ _ _ (by
    have hu : u.val = 0 := by omega
    rw [Shape.rowMajor_val_three, Shape.rowMajor_val_two]
    show a.val * 128 + b.val = (u.val * 256 + a.val) * 128 + b.val
    rw [hu]; omega)

/-- A slot's access places `(u, a, b)` at `(s, a, b)`. -/
theorem emb_slot3 (s : Fin 32) (u : Fin 1) (a : Fin 256) (b : Fin 128) : (slotR s).emb (ix3 u a b) = ix3 s a b := by
  funext x; fin_cases x <;> refine Fin.ext ?_
  · show s.val + 1 * u.val = s.val; omega
  · show 0 + 1 * a.val = a.val; omega
  · show 0 + 1 * b.val = b.val; omega

/-- The store of a computed block into the send buffer. -/
theorem stored_y (c : Dev nD) (t : Fin 8) (j : Fin 4) (fd : Vec F S32x256x128 .bf16) :
    ∀ i ∈ (slotR (far t j)).set,
      (yM.access (slotR (far t j)) : View sig .tc _ _ _).write (Elt F) fd (colBlk3 j (prod (xstg m c) (wCol m c t))) Finset.univ i = yF m c i := by
  rw [← View.set_slice_whole cc0_scratch1 (slotR (far t j))]
  refine write_agrees (View.slice (View.whole cc0_scratch1) (slotR (far t j))) fd _ (yF m c) fun x => ?_
  have key : ∀ (u : Fin 1) (a : Fin 256) (b : Fin 128), yF m c ((slotR (far t j)).emb (ix3 u a b))
      = colBlk3 j (prod (xstg m c) (wCol m c t)) (ix3 u a b) := by
    intro u a b
    rw [emb_slot3, blk3_apply, blk_far]
    rfl
  rw [show x = ix3 (show Fin 1 from x 0) (show Fin 256 from x 1) (show Fin 128 from x 2) from eq_ix3 (n0 := 1) (n1 := 256) (n2 := 128) x]
  exact key (x 0) (x 1) (x 2)

/-- The store of the block the device keeps into the receive buffer: step 0's block 0, distance 0. -/
theorem stored_keep (c : Dev nD) (fd : Vec F S32x256x128 .bf16) :
    ∀ i ∈ (slotR c).set,
      (rM.access (slotR c) : View sig .tc _ _ _).write (Elt F) fd (colBlk3 0 (prod (xstg m c) (wCol m c 0))) Finset.univ i = rF m c i := by
  rw [← View.set_slice_whole cc0_scratch2 (slotR c)]
  refine write_agrees (View.slice (View.whole cc0_scratch2) (slotR c)) fd _ (rF m c) fun x => ?_
  have key : ∀ (u : Fin 1) (a : Fin 256) (b : Fin 128), rF m c ((slotR c).emb (ix3 u a b))
      = colBlk3 0 (prod (xstg m c) (wCol m c 0)) (ix3 u a b) := by
    intro u a b
    rw [emb_slot3, blk3_apply, blk_far]
    show blkOf m c (gap c c) _ = _
    rw [gap_self]
    rfl
  rw [show x = ix3 (show Fin 1 from x 0) (show Fin 256 from x 1) (show Fin 128 from x 2) from eq_ix3 (n0 := 1) (n1 := 256) (n2 := 128) x]
  exact key (x 0) (x 1) (x 2)

/-- A block sent `s` places on lands as its receiver's block from the sender. -/
theorem landed_r (c : Dev nD) (s : Fin 32) (fd : Vec F S32x256x128 .bf16) :
    ∀ i ∈ (slotR c).set, (rV c).view.write (Elt F) fd ((yV s).view.read (Elt F) (yF m c)) Finset.univ i = rF m (fwd c s) i := by
  rw [← set_rV]
  refine write_agrees (rV c).view fd _ (rF m (fwd c s)) fun x => ?_
  have key : ∀ (a : Fin 256) (b : Fin 128), rF m (fwd c s) ((slotR c).emb (Shape.reshapeEquiv squeezes_S1x256x128_S256x128.numel_eq (ix2 a b)))
      = yF m c ((slotR s).emb (Shape.reshapeEquiv squeezes_S1x256x128_S256x128.numel_eq (ix2 a b))) := by
    intro a b
    rw [emb_slot c a b, emb_slot s a b]
    show blkOf m c (gap (fwd c s) c) _ = blkOf m c s _
    rw [gap_fwd]
  rw [eq_ix2 x]
  exact key (x 0) (x 1)

theorem hz2 : (![0, 0] : Fin 2 → Nat) = fun _ => 0 := funext fun a => by fin_cases a <;> rfl
theorem hz3 : (![0, 0, 0] : Fin 3 → Nat) = fun _ => 0 := funext fun a => by fin_cases a <;> rfl

theorem read_x (f : Vec F S256x8192 .f32) :
    xM.view.readAt (Elt F) (Rect.unit (s := S256x8192) ![0, 0] S256x8192.size inb_S256x8192_S256x8192_0_0).toLoadRect f = f :=
  Memref.readAt_unit_zero (Elt F) cc0_stg0_0 hz2 _ f
theorem read_r (f : Vec F S32x256x128 .bf16) :
    rM.view.readAt (Elt F) (Rect.unit (s := S32x256x128) ![0, 0, 0] S32x256x128.size inb_S32x256x128_S32x256x128_0_0_0).toLoadRect f = f :=
  Memref.readAt_unit_zero (Elt F) cc0_scratch2 hz3 _ f
theorem write_o (f w : Vec F S8192x128 .f32) :
    (oM.access (Rect.unit (s := S8192x128) ![0, 0] S8192x128.size inb_S8192x128_S8192x128_0_0) : View sig .tc _ _ _).write (Elt F) f w Finset.univ = w :=
  Memref.write_access_unit_zero_univ (Elt F) cc0_stg1_0 hz2 _ f w

abbrev wloadR (t : Fin 2) : Rect S2x8192x512 := Rect.unit (s := S2x8192x512) ![t.val, 0, 0] S1x8192x512.size (wload_inb _ t.isLt)

/-- The load of a weight-buffer slot takes the four regions of the slot, and gives the step's columns. -/
theorem read_w (c : Dev nD) (t : Fin 8) : wbM.view.readAt (Elt F) (wloadR (half t)).toLoadRect (wbF m c t) = wCol m c t := by
  funext x
  have key : ∀ (u : Fin 1) (a : Fin 8192) (b : Fin 512), wbF m c t ((wloadR (half t)).emb (ix3 u a b)) = wCol m c t (ix3 u a b) := by
    intro u a b
    have h : (wloadR (half t)).emb (ix3 u a b) = ix3 (half t) a b := by
      funext y; fin_cases y <;> refine Fin.ext ?_
      · show (half t).val + 1 * u.val = (half t).val; omega
      · show 0 + 1 * a.val = a.val; omega
      · show 0 + 1 * b.val = b.val; omega
    rw [h]
    rfl
  rw [show x = ix3 (show Fin 1 from x 0) (show Fin 8192 from x 1) (show Fin 512 from x 2) from eq_ix3 (n0 := 1) (n1 := 8192) (n2 := 512) x]
  exact key (x 0) (x 1) (x 2)
theorem wload_set (t : Fin 2) : wbM.view.setOn (wloadR t).toLoadRect.set ⊆ (Finset.univ : Finset (Fin 4)).biUnion (fun j => (wbR t j).set) := by
  intro i hi
  obtain ⟨x, hx, rfl⟩ := Finset.mem_map.mp hi
  have h := (Rect.mem_set_unit (s := S2x8192x512)).mp hx
  have h0 : t.val ≤ (x 0).val ∧ (x 0).val < t.val + 1 := h 0
  have h2 : (x 2).val < 512 := (x 2).isLt
  exact Finset.mem_biUnion.mpr ⟨⟨(x 2).val / 128, by omega⟩, Finset.mem_univ _, mem_wb.mpr ⟨Fin.ext (by show (x 0).val = t.val; omega), rfl⟩⟩

end Cert.KernelIdeal.Rot

end
-- ==== Proof.Ideal.Schedule.lean ====
/-
The protocol. Every device talks to every other once:

* the barrier cell of device `c` (the runtime's, collective id 0): one round of thirty-one duties of one unit, one per
  other device; device `d`'s signal hands `c` slot `c` of `d`'s receive buffer. After its wait for thirty-one, `c` may
  write its slot on every other device.
* the receive cell `(d, src)`, `src ≠ d`: one duty of a block's credit, paid by `src`'s transfer into slot `src` of
  `d`'s receive buffer; it hands `d` the slot holding `src`'s block for it.
* the send cell `(c, s)`, `s ≠ 0`: one duty of the same credit, paid by `c`'s transfer to the device `s` places on; it
  hands the send slot back.

The weight copies are local and on cells of their own (held at zero between copies). The cells are waited in the order
weight, barrier, receive: a device waits for its weight copies while it owes receive credits, and on its barrier while
it owes receive credits only.
-/
module

public import proofs.«01_k».proof.Proof.Ideal.Contents

@[expose] public section

noncomputable section

namespace Cert.KernelIdeal.Rot

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the protocol's rounds, the local copies' counters -/

abbrev UB : Type := URounds (GSem nD τ sig) (Fin 32)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## Indices taken in order -/

/-- The indices from `k` on. -/
def upFrom (n k : ℕ) : Finset (Fin n) := Finset.univ.filter fun i => k ≤ i.val
/-- The indices below `k`. -/
def below (n k : ℕ) : Finset (Fin n) := Finset.univ.filter fun i => i.val < k

theorem upFrom_zero (n : ℕ) : upFrom n 0 = Finset.univ := Finset.filter_true_of_mem fun i _ => Nat.zero_le _
theorem below_zero (n : ℕ) : below n 0 = ∅ := Finset.filter_false_of_mem fun i _ => Nat.not_lt_zero _
theorem upFrom_all (n k : ℕ) (h : n ≤ k) : upFrom n k = ∅ := Finset.filter_false_of_mem fun i _ => by omega
theorem below_all (n k : ℕ) (h : n ≤ k) : below n k = Finset.univ := Finset.filter_true_of_mem fun i _ => by omega
theorem upFrom_step (n k : ℕ) (h : k < n) : upFrom n k = insert ⟨k, h⟩ (upFrom n (k + 1)) := by
  ext i; simp only [upFrom, Finset.mem_filter, Finset.mem_univ, true_and, Finset.mem_insert, Fin.ext_iff]; omega
theorem below_step (n k : ℕ) (h : k < n) : below n (k + 1) = insert ⟨k, h⟩ (below n k) := by
  ext i; simp only [below, Finset.mem_filter, Finset.mem_univ, true_and, Finset.mem_insert, Fin.ext_iff]; omega
theorem not_mem_upFrom (n k : ℕ) (h : k < n) : (⟨k, h⟩ : Fin n) ∉ upFrom n (k + 1) := by
  simp only [upFrom, Finset.mem_filter, Finset.mem_univ, true_and]; omega
theorem not_mem_below (n k : ℕ) (h : k < n) : (⟨k, h⟩ : Fin n) ∉ below n k := by
  simp only [below, Finset.mem_filter, Finset.mem_univ, true_and]; omega

omit [FloatOps F] in
/-- The first of the indices from `k` on, taken out; -/
theorem take_first {n : ℕ} (k : ℕ) (h : k < n) (Φ : Fin n → sProp 𝕄) :
    bigSep (upFrom n k) Φ = iprop(Φ ⟨k, h⟩ ∗ bigSep (upFrom n (k + 1)) Φ) := by
  rw [upFrom_step n k h]; exact bigSep_insert (not_mem_upFrom n k h)
omit [FloatOps F] in
/-- one more index put in. -/
theorem put_next {n : ℕ} (k : ℕ) (h : k < n) (Φ : Fin n → sProp 𝕄) :
    bigSep (below n (k + 1)) Φ = iprop(Φ ⟨k, h⟩ ∗ bigSep (below n k) Φ) := by
  rw [below_step n k h]; exact bigSep_insert (not_mem_below n k h)
omit [FloatOps F] in
theorem put_none {n : ℕ} (Φ : Fin n → sProp 𝕄) : bigSep (below n 0) Φ = iprop(emp) := by
  rw [below_zero]; exact bigSep_empty
omit [FloatOps F] in
theorem take_none {n : ℕ} (k : ℕ) (h : n ≤ k) (Φ : Fin n → sProp 𝕄) : bigSep (upFrom n k) Φ = iprop(emp) := by
  rw [upFrom_all n k h]; exact bigSep_empty

/-- The devices by their distance from `c`. -/
def turn (c : Fin 32) : Fin 32 ≃ Fin 32 where
  toFun s := ⟨(c.val + s.val) % 32, Nat.mod_lt _ (by decide)⟩
  invFun d := gap d c
  left_inv s := by refine Fin.ext ?_; show ((c.val + s.val) % 32 + 32 - c.val) % 32 = s.val; omega
  right_inv d := by refine Fin.ext ?_; show (c.val + (d.val + 32 - c.val) % 32) % 32 = d.val; omega

theorem fwd_zero (c : Dev nD) : fwd c 0 = c := Fin.ext (by
  have hc : c.val < 32 := c.isLt
  show (c.val + 0) % 32 = c.val; omega)
theorem fwd_ne (c : Dev nD) (s : Fin 32) (h : 1 ≤ s.val) : fwd c s ≠ c := fun e => by
  have hc : c.val < 32 := c.isLt
  have : (c.val + s.val) % 32 = c.val := congrArg Fin.val e
  omega

omit [FloatOps F] in
/-- A family over the devices, by distance from `c`: `c`'s own member and the thirty-one others'. -/
theorem around (c : Fin 32) (Φ : Fin 32 → sProp 𝕄) :
    bigSep Finset.univ Φ = iprop(Φ c ∗ bigSep (upFrom 32 1) fun s => Φ (fwd c s)) := by
  rw [bigSep_univ_equiv (turn c) Φ, ← upFrom_zero 32, take_first 0 (by decide)]
  show iprop(Φ (fwd c 0) ∗ bigSep (upFrom 32 1) fun s => Φ (fwd c s)) = _
  rw [fwd_zero]
omit [FloatOps F] in
/-- The others', by distance. -/
theorem around_others (c : Fin 32) (Φ : Fin 32 → sProp 𝕄) :
    bigSep (Finset.univ.erase c) Φ = bigSep (upFrom 32 1) fun s => Φ (fwd c s) := by
  have hset : (upFrom 32 1).map (turn c).toEmbedding = Finset.univ.erase c := by
    ext d
    simp only [Finset.mem_map, Finset.mem_erase, Finset.mem_univ, and_true, upFrom, Finset.mem_filter, true_and]
    constructor
    · rintro ⟨s, hs, rfl⟩; exact fwd_ne c s hs
    · intro hd
      refine ⟨gap d c, ?_, (turn c).right_inv d⟩
      have : d.val ≠ c.val := fun e => hd (Fin.ext e)
      show 1 ≤ (d.val + 32 - c.val) % 32
      omega
  rw [← hset, bigSep_map]
  rfl

/-! ## The cells -/

abbrev rSem (s : Fin 32) : DmaSems sig S_ := rSemAt ![s.val] (sem_inb _ s.isLt)

theorem sSem_val : ∀ s : Fin 32, (sSem s).sem.val = 10 + s.val := by decide
theorem rSem_val : ∀ s : Fin 32, (rSem s).sem.val = 42 + s.val := by decide
theorem wSem_val : ∀ (t : Fin 2) (j : Fin 4), (wSem t j).sem.val = 2 + 4 * t.val + j.val := by decide

abbrev barCell (c : Dev nD) : GSem nD τ sig := ((c : Thread nD τ), .reg barS)
abbrev sCell (c : Dev nD) (s : Fin 32) : GSem nD τ sig := ((c : Thread nD τ), .dma (sSem s).sem)
abbrev rCell (d : Dev nD) (src : Fin 32) : GSem nD τ sig := ((d : Thread nD τ), .dma (rSem src).sem)
abbrev wCell (c : Dev nD) (t : Fin 2) (j : Fin 4) : GSem nD τ sig := ((c : Thread nD τ), .dma (wSem t j).sem)

/-- A block's credit. -/
abbrev N : ℕ := (rV 0).view.dmaCredit
theorem N_pos : 0 < N := View.dmaCredit_pos _ (by decide)

variable (m : (ℓ : Loc nD τ sig) → Buf (Elt F) ℓ)

/-! ## The regions held -/

/-- Slot `s` of `c`'s send buffer. -/
def yPts (c : Dev nD) (s : Fin 32) (f : Vec F S32x256x128 .bf16) : sProp 𝕄 := ((c : Thread nD τ).loc cc0_scratch1) ↦[(slotR s).set]{fullShare} f
/-- Slot `s` of `c`'s receive buffer. -/
def rPts (c : Dev nD) (s : Fin 32) (f : Vec F S32x256x128 .bf16) : sProp 𝕄 := ((c : Thread nD τ).loc cc0_scratch2) ↦[(slotR s).set]{fullShare} f
/-- Column block `j` of slot `t` of `c`'s weight buffer. -/
def wbPts (c : Dev nD) (t : Fin 2) (j : Fin 4) (f : Vec F S2x8192x512 .f32) : sProp 𝕄 := ((c : Thread nD τ).loc cc0_scratch0) ↦[(wbR t j).set]{fullShare} f
/-- Column block `b` of `c`'s weight. -/
def colPts (c : Dev nD) (b : Fin 32) : sProp 𝕄 := ((c : Thread nD τ).loc main_arg1) ↦[(colR b).set]{fullShare} (wmem m c)

omit [FloatOps F] in
instance yPts_storable (c : Dev nD) (s f) : BI.Storable (upEmb : UEmb _ 𝕄) (yPts (F := F) c s f) := by unfold yPts; infer_instance
omit [FloatOps F] in
instance rPts_storable (c : Dev nD) (s f) : BI.Storable (upEmb : UEmb _ 𝕄) (rPts (F := F) c s f) := by unfold rPts; infer_instance

/-! ## The schedule -/

/-- What device `d`'s signal hands `c`: slot `c` of `d`'s receive buffer. -/
def barPay (c d : Dev nD) : sProp 𝕄 := iprop(∃ f, rPts (F := F) d c f)

/-- The slot a send or receive cell serves. -/
def slotOf (q : DmaSem sig) : Fin 32 := ⟨(q.val - 10) % 32, Nat.mod_lt _ (by decide)⟩
theorem slotOf_send (s : Fin 32) : slotOf (sSem s).sem = s := Fin.ext (by
  show ((sSem s).sem.val - 10) % 32 = s.val
  rw [sSem_val]; omega)
theorem slotOf_recv (s : Fin 32) : slotOf (rSem s).sem = s := Fin.ext (by
  show ((rSem s).sem.val - 10) % 32 = s.val
  rw [rSem_val]; omega)

def dutiesOf (c : Dev nD) : SemLoc sig → Finset (Fin 32)
  | .reg _ => Finset.univ.erase c
  | .dma q => if 10 < q.val ∧ q.val ≠ 42 + c.val then {0} else ∅
def amountOf' : SemLoc sig → ℕ
  | .reg _ => 1
  | .dma _ => N
def payOf (c : Dev nD) : SemLoc sig → Fin 32 → sProp 𝕄
  | .reg _, d => barPay (F := F) c d
  | .dma q, _ => if 42 ≤ q.val then rPts c (slotOf q) (rF m c) else yPts c (slotOf q) (yF m c)

def Rd : Rounds.Schedule (GSem nD τ sig) (Fin 32) 𝕄 where
  duties g r := if r = 0 ∧ g.1.2 = .tc then dutiesOf g.1.1 g.2 else ∅
  unitless _ := False
  amount g _ _ := amountOf' g.2
  payload g _ d := payOf m g.1.1 g.2 d
  amount_pos g _ _ _ := by
    rcases g with ⟨_, _ | _⟩
    · exact Nat.one_pos
    · exact N_pos

instance Rd_payload_storable (g : GSem nD τ sig) (r : ℕ) (d : Fin 32) :
    BI.Storable (upEmb : UEmb _ 𝕄) ((Rd (F := F) m).payload g r d) := by
  show BI.Storable upEmb (payOf m g.1.1 g.2 d)
  rcases g with ⟨_, _ | _⟩
  · unfold payOf barPay; infer_instance
  · unfold payOf; dsimp only; split <;> infer_instance

section Sched
variable (c : Dev nD)

theorem duties_bar : (Rd (F := F) m).duties (barCell c) 0 = Finset.univ.erase c := by
  dsimp only [Rd]; rw [if_pos ⟨rfl, rfl⟩]; rfl
theorem duties_dma (q : DmaSem sig) (h : 10 < q.val ∧ q.val ≠ 42 + c.val) : (Rd (F := F) m).duties ((c : Thread nD τ), .dma q) 0 = {0} := by
  dsimp only [Rd]; rw [if_pos ⟨rfl, rfl⟩]; exact if_pos h
theorem no_duties_dma (q : DmaSem sig) (h : ¬ (10 < q.val ∧ q.val ≠ 42 + c.val)) (r : ℕ) : (Rd (F := F) m).duties ((c : Thread nD τ), .dma q) r = ∅ := by
  dsimp only [Rd]
  split
  · exact if_neg h
  · rfl
theorem duties_send (s : Fin 32) (h : 1 ≤ s.val) : (Rd (F := F) m).duties (sCell c s) 0 = {0} :=
  duties_dma m c _ (by have hc : c.val < 32 := c.isLt; rw [sSem_val]; omega)
theorem duties_recv (s : Fin 32) (h : s ≠ c) : (Rd (F := F) m).duties (rCell c s) 0 = {0} :=
  duties_dma m c _ (by have : s.val ≠ c.val := fun e => h (Fin.ext e); rw [rSem_val]; omega)
theorem duties_later (g : GSem nD τ sig) : ∀ r, 1 ≤ r → (Rd (F := F) m).duties g r = ∅ :=
  fun r hr => by dsimp only [Rd]; rw [if_neg fun h => by omega]

theorem amount_bar (d : Fin 32) : (Rd (F := F) m).amount (barCell c) 0 d = 1 := rfl
theorem amount_dma (q : DmaSem sig) (d : Fin 32) : (Rd (F := F) m).amount ((c : Thread nD τ), .dma q) 0 d = N := rfl

theorem expect_bar : (Rd (F := F) m).expect (barCell c) 0 = 31 := by
  unfold Schedule.expect Schedule.amountOf
  rw [duties_bar, Finset.sum_congr rfl fun d _ => amount_bar m c d, Finset.sum_const, smul_eq_mul, Nat.mul_one,
    Finset.card_erase_of_mem (Finset.mem_univ _), Finset.card_univ, Fintype.card_fin]
theorem expect_dma (q : DmaSem sig) (h : 10 < q.val ∧ q.val ≠ 42 + c.val) : (Rd (F := F) m).expect ((c : Thread nD τ), .dma q) 0 = N := by
  unfold Schedule.expect Schedule.amountOf
  rw [duties_dma m c q h, Finset.sum_singleton, amount_dma]
theorem expect_send (s : Fin 32) (h : 1 ≤ s.val) : (Rd (F := F) m).expect (sCell c s) 0 = N :=
  expect_dma m c _ (by have hc : c.val < 32 := c.isLt; rw [sSem_val]; omega)
theorem expect_recv (s : Fin 32) (h : s ≠ c) : (Rd (F := F) m).expect (rCell c s) 0 = N :=
  expect_dma m c _ (by have : s.val ≠ c.val := fun e => h (Fin.ext e); rw [rSem_val]; omega)

theorem payload_bar (d : Fin 32) : (Rd (F := F) m).payload (barCell c) 0 d = barPay c d := rfl
theorem payload_send (s d : Fin 32) : (Rd (F := F) m).payload (sCell c s) 0 d = yPts c s (yF m c) := by
  show (if 42 ≤ (sSem s).sem.val then _ else _) = _
  rw [if_neg (by rw [sSem_val]; omega), slotOf_send]
theorem payload_recv (s d : Fin 32) : (Rd (F := F) m).payload (rCell c s) 0 d = rPts c s (rF m c) := by
  show (if 42 ≤ (rSem s).sem.val then _ else _) = _
  rw [if_pos (by rw [rSem_val]; omega), slotOf_recv]

theorem rest_bar : bigSep ((Rd (F := F) m).duties (barCell c) 0 \ ∅) (fun d => (Rd (F := F) m).payload (barCell c) 0 d)
    = bigSep (upFrom 32 1) fun s => barPay c (fwd c s) := by
  rw [Finset.sdiff_empty, duties_bar, around_others]; rfl
theorem rest_send (s : Fin 32) (h : 1 ≤ s.val) :
    bigSep ((Rd (F := F) m).duties (sCell c s) 0 \ ∅) (fun d => (Rd (F := F) m).payload (sCell c s) 0 d) = yPts c s (yF m c) := by
  rw [Finset.sdiff_empty, duties_send m c s h, bigSep_singleton, payload_send]
theorem rest_recv (s : Fin 32) (h : s ≠ c) :
    bigSep ((Rd (F := F) m).duties (rCell c s) 0 \ ∅) (fun d => (Rd (F := F) m).payload (rCell c s) 0 d) = rPts c s (rF m c) := by
  rw [Finset.sdiff_empty, duties_recv m c s h, bigSep_singleton, payload_recv]

end Sched

/-! ## What a device owes; the levels -/

/-- The receive credits owed to the devices `k` places on and further. -/
def owedRecv (c : Dev nD) (k : ℕ) : CellTallies nD τ sig Unit := ∑ s ∈ upFrom 32 k, tallyAt (rCell (fwd c s) c) () N
/-- The barrier units owed to them. -/
def owedBar (c : Dev nD) (k : ℕ) : CellTallies nD τ sig Unit := ∑ s ∈ upFrom 32 k, tallyAt (barCell (fwd c s)) () 1
/-- At launch: to every other device. -/
def O₀ (c : Dev nD) : CellTallies nD τ sig Unit := owedRecv c 1 + owedBar c 1

theorem owedRecv_step (c : Dev nD) (s : Fin 32) : owedRecv c s.val = owedRecv c (s.val + 1) + tallyAt (rCell (fwd c s) c) () N := by
  unfold owedRecv; rw [upFrom_step 32 s.val s.isLt, Finset.sum_insert (not_mem_upFrom 32 s.val s.isLt), add_comm]
theorem owedBar_step (c : Dev nD) (s : Fin 32) : owedBar c s.val = owedBar c (s.val + 1) + tallyAt (barCell (fwd c s)) () 1 := by
  unfold owedBar; rw [upFrom_step 32 s.val s.isLt, Finset.sum_insert (not_mem_upFrom 32 s.val s.isLt), add_comm]
theorem owedRecv_none (c : Dev nD) : owedRecv c 32 = 0 := by unfold owedRecv; rw [upFrom_all 32 32 le_rfl, Finset.sum_empty]
theorem owedBar_none (c : Dev nD) : owedBar c 32 = 0 := by unfold owedBar; rw [upFrom_all 32 32 le_rfl, Finset.sum_empty]

def L (g : GSem nD τ sig) : Finset Unit := if g.1.2 = .tc then {()} else ∅
def lvOf : SemLoc sig → ℕ
  | .reg _ => 1
  | .dma q => if 42 ≤ q.val then 2 else 0
/-- The barrier at 1, the receive cells at 2, every other cell at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {S : Finset (Fin 32)} {cell : Fin 32 → GSem nD τ sig} {n : ℕ} {g : GSem nD τ sig} {u : Unit}
    (h : 0 < (∑ s ∈ S, tallyAt (cell s) () n : CellTallies nD τ sig Unit) g u) : ∃ s, g = cell s := by
  rw [Finset.sum_apply, Finsupp.finset_sum_apply] at h
  by_contra hn
  rw [not_exists] at hn
  rw [Finset.sum_eq_zero fun s _ => by rw [tallyAt_apply, if_neg fun h' => hn s h'.1]] at h
  exact Nat.lt_irrefl 0 h

theorem lv_recv (d : Dev nD) (s : Fin 32) (u : Unit) : lv (rCell d s) u = 2 := by
  show (if 42 ≤ (rSem s).sem.val then 2 else 0) = 2
  rw [if_pos (by rw [rSem_val]; omega)]

/-- A device may wait on a cell of level 0 while it owes receive credits and barrier units; -/
theorem mayWait_low (c : Dev nD) (q : DmaSem sig) (hq : q.val < 42) (k k' : ℕ) :
    (levAts L lv : sProp 𝕄) ⊢ MayWait (c : Thread nD τ) (.dma q) () (owedRecv c k + owedBar c k') := by
  have hpos : ∀ g u, 0 < (owedRecv c k + owedBar c k') g u → (∃ s, g = rCell (fwd c s) c) ∨ ∃ s, g = barCell (fwd c s) := by
    intro g u hg
    rw [Pi.add_apply, Finsupp.add_apply] at hg
    by_cases h0 : 0 < owedRecv c k g u
    · exact Or.inl (sum_tally_pos h0)
    · exact Or.inr (sum_tally_pos (show 0 < owedBar c k' g u by omega))
  refine MayOwe.of_cut (L := L) (lev := lv) 0 (fun p hp => by rw [Finset.mem_singleton.mp hp, L_tc]; exact Finset.mem_singleton_self _)
    (fun g u hg => by rcases hpos g u hg with ⟨s, rfl⟩ | ⟨s, rfl⟩ <;> exact Finset.mem_singleton_self _)
    (fun p hp => by
      rw [Finset.mem_singleton.mp hp]
      show (if 42 ≤ q.val then 2 else 0) ≤ 0
      rw [if_neg (by omega)])
    (fun g u hg => by
      rcases hpos g u hg with ⟨s, rfl⟩ | ⟨s, rfl⟩
      · rw [lv_recv]; decide
      · exact Nat.one_pos)
/-- while it owes receive credits only; -/
theorem mayWait_low' (c : Dev nD) (q : DmaSem sig) (hq : q.val < 42) (k : ℕ) :
    (levAts L lv : sProp 𝕄) ⊢ MayWait (c : Thread nD τ) (.dma q) () (owedRecv c k) := by
  have h := mayWait_low (F := F) c q hq k 32
  rwa [owedBar_none, add_zero] at h
/-- and on its barrier while it owes receive credits only. -/
theorem mayWait_bar (c : Dev nD) (k : ℕ) : (levAts L lv : sProp 𝕄) ⊢ MayWait (c : Thread nD τ) (.reg barS) () (owedRecv c k) :=
  MayOwe.of_cut (L := L) (lev := lv) 1 (fun p hp => by rw [Finset.mem_singleton.mp hp, L_tc]; exact Finset.mem_singleton_self _)
    (fun g u hg => by obtain ⟨s, rfl⟩ := sum_tally_pos hg; exact Finset.mem_singleton_self _)
    (fun p hp => by rw [Finset.mem_singleton.mp hp]; exact le_rfl)
    (fun g u hg => by obtain ⟨s, rfl⟩ := sum_tally_pos hg; rw [lv_recv]; decide)

end Cert.KernelIdeal.Rot

end
-- ==== Proof.Ideal.Pieces.lean ====
/-
The body's pieces, each by one rule of the rounds library or of the local transfers: a signal, the barrier's wait, a
weight copy started and waited for, the block kept, a block sent, and one pair of final waits.
-/
module

public import proofs.«01_k».proof.Proof.Ideal.Schedule
public import Idealize.ShloMosaic.Lib.Transfers

@[expose] public section

noncomputable section

namespace Cert.KernelIdeal.Rot

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

abbrev 𝒱₀ : Variants := Variants.none

/-- Device `c` runs `p` to `Q`. -/
abbrev Runs {α : Type} (c : Dev nD) (p : PG F α) (Q : α → sProp 𝕄) : sProp 𝕄 :=
  wp frame (wpE (defs₀ (F := F)) 𝒱₀ (c : Thread nD τ) none) Set.univ p Q

/-- A piece run at the head of a program. -/
theorem use {α β : Type} {c : Dev nD} {p : PG F α} {P : sProp 𝕄} {Q : α → sProp 𝕄} (h : P ⊢ Runs c p Q) {k : α → PG F β} {R : β → sProp 𝕄} :
    P ⊢ iprop((∀ a, Q a -∗ Runs c (k a) R) -∗ Runs c (p.bind k) R) := by
  have e : Runs c (p.bind k) R = Runs c p (fun a => Runs c (k a) R) := wp_bind _ _ _ p k R
  rw [e]
  exact h.trans (wp_wand _ _ _)

/-- The rule of the loop: an invariant kept by every turn, beside a persistent context. -/
theorem loop_rule {n₀ : ℕ} (c : Dev nD) (f : Fin n₀ → PG F PUnit) (C : sProp 𝕄) [BI.Persistent C] (I : ℕ → sProp 𝕄)
    (h : ∀ i : Fin n₀, iprop(C ∗ I i.val) ⊢ Runs c (f i) (fun _ => I (i.val + 1))) :
    ∀ (n k : ℕ) (hk : k + n ≤ n₀), iprop(C ∗ I k) ⊢ Runs c (loop f n k hk) (fun _ => I (k + n))
  | 0, k, hk => by
    show _ ⊢ wp _ _ _ (.ret PUnit.unit) _
    rw [wp_ret, Nat.add_zero]
    iintro ⟨-, HI⟩
    imodintro
    iexact HI
  | n + 1, k, hk => by
    unfold loop
    iintro ⟨#HC, HI⟩
    iapply (use (h (⟨k, Nat.lt_of_lt_of_le (Nat.lt_add_of_pos_right n.succ_pos) hk⟩ : Fin n₀))) $$ [HI]
    · isplitr; · iexact HC
      iexact HI
    iintro %_ HI
    rw [show (fun _ : PUnit => I (k + (n + 1))) = fun _ => I (k + 1 + n) from funext fun _ => congrArg I (by omega)]
    iapply (loop_rule c f C I h n (k + 1) _)
    isplitr; · iexact HC
    iexact HI

variable (m : (ℓ : Loc nD τ sig) → Buf (Elt F) ℓ)

/-! ## What every device knows -/

/-- A cell's invariant, at some name, and that its round 0 is open. -/
def known (g : GSem nD τ sig) : sProp 𝕄 := iprop((∃ κ : ℕ, cellInv ER (Rd m) κ g) ∗ reached ER g 0)
instance known_persistent (g : GSem nD τ sig) : BI.Persistent (known m g) := by unfold known; infer_instance

/-- The levels of all cells. -/
def levs : sProp 𝕄 := levAts L lv
instance levs_persistent : BI.Persistent (levs (F := F)) := by unfold levs; infer_instance
theorem levs_wait_bar (c : Dev nD) (k : ℕ) : levs (F := F) ⊢ (MayWait (c : Thread nD τ) (.reg barS) () (owedRecv c k) : sProp 𝕄) := mayWait_bar c k
theorem levs_wait_low (c : Dev nD) (q : DmaSem sig) (hq : q.val < 42) (k : ℕ) : levs (F := F) ⊢ (MayWait (c : Thread nD τ) (.dma q) () (owedRecv c k) : sProp 𝕄) :=
  mayWait_low' c q hq k

/-- All the cells' invariants, and the levels. -/
def ctx : sProp 𝕄 :=
  iprop((bigSep Finset.univ fun c : Dev nD => bigSep Finset.univ fun s : Fin 32 => known m (sCell c s))
    ∗ (bigSep Finset.univ fun c : Dev nD => bigSep Finset.univ fun s : Fin 32 => known m (rCell c s))
    ∗ (bigSep Finset.univ fun c : Dev nD => known m (barCell c)) ∗ levs (F := F))
instance ctx_persistent : BI.Persistent (ctx m) := by unfold ctx; infer_instance

theorem ctx_send (c : Dev nD) (s : Fin 32) : ctx m ⊢ known m (sCell c s) := by
  have h : (bigSep Finset.univ fun c : Dev nD => bigSep Finset.univ fun s : Fin 32 => known m (sCell c s))
      ⊢ bigSep Finset.univ fun s : Fin 32 => known m (sCell c s) := bigSep_elim (Finset.mem_univ c)
  have h' : (bigSep Finset.univ fun s : Fin 32 => known m (sCell c s)) ⊢ known m (sCell c s) := bigSep_elim (Finset.mem_univ s)
  refine .trans ?_ (h.trans h')
  unfold ctx
  iintro ⟨H, -⟩
  iexact H
theorem ctx_recv (c : Dev nD) (s : Fin 32) : ctx m ⊢ known m (rCell c s) := by
  have h : (bigSep Finset.univ fun c : Dev nD => bigSep Finset.univ fun s : Fin 32 => known m (rCell c s))
      ⊢ bigSep Finset.univ fun s : Fin 32 => known m (rCell c s) := bigSep_elim (Finset.mem_univ c)
  have h' : (bigSep Finset.univ fun s : Fin 32 => known m (rCell c s)) ⊢ known m (rCell c s) := bigSep_elim (Finset.mem_univ s)
  refine .trans ?_ (h.trans h')
  unfold ctx
  iintro ⟨-, H, -⟩
  iexact H
theorem ctx_bar (c : Dev nD) : ctx m ⊢ known m (barCell c) := by
  have h : (bigSep Finset.univ fun c : Dev nD => known m (barCell c)) ⊢ known m (barCell c) := bigSep_elim (Finset.mem_univ c)
  refine .trans ?_ h
  unfold ctx
  iintro ⟨-, -, H, -⟩
  iexact H
/-- The waits on the barrier's cell, and on the cells below the send slots', are permitted. -/
theorem ctx_wait_bar (c : Dev nD) (k : ℕ) : ctx m ⊢ MayWait (c : Thread nD τ) (.reg barS) () (owedRecv c k) := by
  unfold ctx
  iintro ⟨-, -, -, H⟩
  iapply (levs_wait_bar (F := F) c k) $$ H
theorem ctx_wait_low (c : Dev nD) (q : DmaSem sig) (hq : q.val < 42) (k : ℕ) : ctx m ⊢ MayWait (c : Thread nD τ) (.dma q) () (owedRecv c k) := by
  unfold ctx
  iintro ⟨-, -, -, H⟩
  iapply (levs_wait_low (F := F) c q hq k) $$ H

/-- Device `c` owes `O`. -/
def ow (c : Dev nD) (O : CellTallies nD τ sig Unit) : sProp 𝕄 := iprop(∃ W : Waits sig Unit, owes (c : Thread nD τ) O W)

/-- A cell no round of which is open is closed: its counter is zero again. -/
theorem close (g : GSem nD τ sig) (R : ℕ) (hR : ∀ r, R ≤ r → (Rd (F := F) m).duties g r = ∅) :
    iprop(known m g ∗ atPos ER g R ∅ 0) ⊢ iprop(|={Set.univ}=> semVal g 0) := by
  unfold known
  iintro ⟨⟨⟨%κ, #HI⟩, -⟩, Hat⟩
  iapply (Rounds.cell_close ER (Rd m) (Set.mem_univ κ) (fun h => h) (R := R) hR)
  isplitr; · iexact HI
  iexact Hat

/-! ## The barrier -/

/-- The token of `c`'s duty at the barrier of the device `s` places on, and the slot that signal hands it. -/
def barRes (c : Dev nD) (s : Fin 32) : sProp 𝕄 := iprop(dutyTok ER (barCell (fwd c s)) 0 c ∗ ∃ f, rPts (F := F) c (fwd c s) f)

/-- A signal: to the device `s = i + 1` places on. -/
theorem run_sig (c : Dev nD) (i : Fin 31) :
    iprop(ctx m ∗ ow c (owedRecv c 1 + owedBar c (dist i).val) ∗ barRes c (dist i))
      ⊢ Runs c (sigStep c i) (fun _ => ow c (owedRecv c 1 + owedBar c ((dist i).val + 1))) := by
  unfold sigStep ow barRes
  rw [devF_eq, owedBar_step c (dist i)]
  simp only [semSignalWord]
  iintro ⟨#HC, ⟨%W, HO⟩, Htok, Hslot⟩
  ihave #Hk := (ctx_bar m (fwd c (dist i))) $$ HC
  unfold known
  icases Hk with ⟨⟨%κ, #HI⟩, #Hr⟩
  iapply (Rounds.wp_signal 𝒱₀ ER (Rd m) (c : Thread nD τ) none (dst := (fwd c (dist i) : Thread nD τ)) (κ := κ) (d := c)
      (by rw [duties_bar]; exact Finset.mem_erase.mpr ⟨(fwd_ne c (dist i) (by show 1 ≤ 1 + i.val; omega)).symm, Finset.mem_univ _⟩)
      ((amount_bar m (fwd c (dist i)) c).trans (by decide)) () (owedRecv c 1 + owedBar c ((dist i).val + 1)) (by rw [add_assoc])) $$ [HO Htok Hslot]
  · isplitr; · iexact HI
    isplitl [HO]; · iexact HO
    isplitl [Htok]; · iexact Htok
    isplitl [Hslot]; · rw [payload_bar]; unfold barPay; iexact Hslot
    iexact Hr
  iintro HO
  rw [wp_ret]; imodintro
  iexists W; iexact HO

/-- The barrier's wait: the thirty-one slots the others hand over; the barrier's cell is then closed. -/
theorem run_bar (c : Dev nD) :
    iprop(ctx m ∗ ow c (owedRecv c 1) ∗ cred (tallyAt (barCell c) () 31) ∗ atPos ER (barCell c) 0 ∅ 0)
      ⊢ Runs c (semWaitWord barS 31#32) (fun _ => iprop(ow c (owedRecv c 1) ∗ semVal (barCell c) 0
          ∗ bigSep (upFrom 32 1) fun s => iprop(∃ f, rPts (F := F) (fwd c s) c f))) := by
  unfold ow
  simp only [semWaitWord]
  iintro ⟨#HC, ⟨%W, HO⟩, Hc, Hat⟩
  ihave #Hk := (ctx_bar m c) $$ HC
  ihave #Hk' := (ctx_bar m c) $$ HC
  unfold known
  icases Hk' with ⟨⟨%κ, #HI⟩, -⟩
  iapply (Rounds.wp_wait_rest_token 𝒱₀ ER (Rd m) (c : Thread nD τ) none (κ := κ)
      (wpE_semWait_eq 𝒱₀ (c : Thread nD τ) none Set.univ) (Set.mem_univ _) () (O := owedRecv c 1) (W := W) (R := 0) (m := 0) (T := ∅)
      (by rw [expect_bar]; decide)) $$ [Hc HO Hat]
  · isplitr; · iexact HI
    isplitl [Hc]; · iexact Hc
    isplitl [HO]; · iexact HO
    isplitr; · iapply (ctx_wait_bar m c 1); iexact HC
    iexact Hat
  iintro ⟨HO, Hat, -, Hpay⟩
  ihave Hp := (Entails.of_eq (rest_bar m c)) $$ Hpay
  imod (close m (barCell c) (0 + 1) (duties_later m (barCell c))) $$ [Hat] with Hz
  · isplitr; · unfold known; iexact Hk
    iexact Hat
  rw [wp_ret]; imodintro
  isplitl [HO]; · iexists _; iexact HO
  isplitl [Hz]; · iexact Hz
  unfold barPay
  iexact Hp

/-! ## The weight copies -/

/-- A weight block's credit. -/
abbrev Nw : ℕ := (wbV 0 0).view.dmaCredit

/-- A weight copy in flight: at its wait it delivers its region with the step's columns, and the weight's block back. -/
def flight (c : Dev nD) (t : Fin 8) (j : Fin 4) : sProp 𝕄 :=
  Flight EC (c : Thread nD τ) (.dma (wSem (half t) j).sem) () Nw iprop(wbPts c (half t) j (wbF m c t) ∗ colPts m c (blkNo c t j))

theorem wbPts_eq (c : Dev nD) (t : Fin 2) (j : Fin 4) (f : Vec F S2x8192x512 .f32) :
    wbPts c t j f = ((wbV t j).view.loc (c : Thread nD τ) ↦[(wbV t j).view.set]{fullShare} f : sProp 𝕄) := by
  rw [set_wbV]; rfl
theorem colPts_eq (c : Dev nD) (b : Fin 32) :
    colPts m c b = ((colV b).view.loc (c : Thread nD τ) ↦[(colV b).view.set]{fullShare} wmem m c : sProp 𝕄) := by
  rw [set_colV]; rfl

/-- The weight's copy started, the block named by its number. -/
theorem run_start' (c : Dev nD) (t : Fin 8) (j : Fin 4) (src : Memref sig .tc .hbm S8192x128 .f32) (hs : src = colV (blkNo c t j))
    (hsrc : src.view.WordExact) :
    iprop((∃ f, wbPts c (half t) j f) ∗ colPts m c (blkNo c t j) ∗ semVal (wCell c (half t) j) 0)
      ⊢ Runs c (Prog.lift (.enqueueDma src (.here (wbV (half t) j)) (.dma (wSem (half t) j).sem) hsrc ((View.wordExact_bits rfl).reshape _ _) ⟨Or.inl rfl, trivial⟩)) (fun _ => flight m c t j) := by
  subst hs
  simp only [Prog.lift]
  iintro ⟨⟨%f, Hd⟩, Hs, Hv⟩
  ihave Hd := (Entails.of_eq (wbPts_eq c (half t) j f)) $$ Hd
  ihave Hs := (Entails.of_eq (colPts_eq m c (blkNo c t j))) $$ Hs
  iapply (wp_dmaLocal EC 𝒱₀ (c : Thread nD τ) none () Nw (show (wbV (half t) j).view.amount _ = Nw from rfl) (View.dmaCredit_pos _ (by decide)) (Finset.Subset.refl _)) $$ [Hd Hs Hv]
  · isplitl [Hs]; · iexact Hs
    isplitl [Hd]; · iexact Hd
    iexact Hv
  iintro HF
  rw [wp_ret]; imodintro
  unfold flight
  iapply (Flight_mono EC (c : Thread nD τ) (D := _) (D' := iprop(wbPts c (half t) j (wbF m c t) ∗ colPts m c (blkNo c t j))) ?_) $$ HF
  refine BI.sep_mono ?_ ?_
  · rw [set_wbV]
    exact Entails.of_eq (pointsTo_congr (landed_w m c t j f))
  · exact Entails.of_eq (colPts_eq m c (blkNo c t j)).symm

theorem run_start (c : Dev nD) (t : Fin 8) (j : Fin 4) :
    iprop((∃ f, wbPts c (half t) j f) ∗ colPts m c (blkNo c t j) ∗ semVal (wCell c (half t) j) 0) ⊢ Runs c (startW c t j) (fun _ => flight m c t j) :=
  run_start' m c t j (wV c t j) (wV_eq c t j) _

/-- A weight copy waited for. -/
theorem run_waitW (c : Dev nD) (t : Fin 8) (j : Fin 4) (k : ℕ) :
    iprop(ctx m ∗ ow c (owedRecv c k) ∗ flight m c t j)
      ⊢ Runs c (waitW c t j) (fun _ => iprop(ow c (owedRecv c k) ∗ wbPts c (half t) j (wbF m c t) ∗ colPts m c (blkNo c t j) ∗ semVal (wCell c (half t) j) 0)) := by
  unfold waitW ow flight
  simp only [Prog.lift]
  iintro ⟨#HC, ⟨%W, HO⟩, HF⟩
  iapply (wp_waitLocalO EC 𝒱₀ (c : Thread nD τ) none () (show (wbV (half t) j).view.dmaCredit = Nw from rfl)) $$ [HO HF]
  · isplitl [HF]; · iexact HF
    isplitl [HO]; · iexact HO
    iapply (ctx_wait_low m c _ (by rw [wSem_val]; have := (half t).isLt; omega) k); iexact HC
  iintro ⟨⟨Hd, Hs⟩, Hv, HO⟩
  rw [wp_ret]; imodintro
  isplitl [HO]; · iexists _; iexact HO
  isplitl [Hd]; · iexact Hd
  isplitl [Hs] <;> iassumption

/-! ## The blocks -/

theorem yPts_eq (c : Dev nD) (s : Fin 32) (f : Vec F S32x256x128 .bf16) :
    yPts c s f = ((yV s).view.loc (c : Thread nD τ) ↦[(yV s).view.set]{fullShare} f : sProp 𝕄) := by
  rw [set_yV]; rfl
theorem rPts_eq (c : Dev nD) (s : Fin 32) (f : Vec F S32x256x128 .bf16) :
    rPts c s f = ((rV s).view.loc (c : Thread nD τ) ↦[(rV s).view.set]{fullShare} f : sProp 𝕄) := by
  rw [set_rV]; rfl

/-- The kept block stored in the device's own slot. -/
theorem run_keep' (c : Dev nD) (off : Fin 3 → ℕ) (ho : off = ![c.val, 0, 0]) {inb : ∀ a, off a + S1x256x128.size a ≤ S32x256x128.size a}
    {hl : rM.view.LoadsAt (Rect.unit (s := S32x256x128) off S1x256x128.size inb).toLoadRect}
    {hx : (rM.access (Rect.unit (s := S32x256x128) off S1x256x128.size inb)).Stores Finset.univ}
    {hm : (Finset.univ : Finset (Rect.unit (s := S32x256x128) off S1x256x128.size inb).shape.Idx) = Finset.univ
      ∨ ∀ a, (Rect.unit (s := S32x256x128) off S1x256x128.size inb).stride a = 1} :
    iprop(∃ f, rPts (F := F) c c f)
      ⊢ Runs c ((Prog.lift (.load rM (Rect.unit (s := S32x256x128) off S1x256x128.size inb).toLoadRect hl) : PG F (Vec F S1x256x128 .bf16)).bind fun _ =>
          Prog.lift (.store rM (Rect.unit (s := S32x256x128) off S1x256x128.size inb) (colBlk3 0 (prod (xstg m c) (wCol m c 0))) Finset.univ hx hm))
        (fun _ => rPts c c (rF m c)) := by
  subst ho
  simp only [Prog.lift, Prog.bind_op, Prog.bind_ret]
  unfold rPts
  iintro ⟨%f, H⟩
  iapply (wp_load 𝒱₀ (c : Thread nD τ) none Set.univ (m := rM) (S := (slotR c).set) (by
    intro i hi; obtain ⟨x, hx, rfl⟩ := Finset.mem_map.mp hi; exact hx)) $$ H; iintro H
  iapply (wp_store 𝒱₀ (c : Thread nD τ) none Set.univ (m := rM) (r := slotR c) (Mk := Finset.univ) (S := (slotR c).set)
    (by rw [View.setOn_univ]; exact (View.set_slice_whole cc0_scratch2 (slotR c)).subset)) $$ H; iintro H
  rw [wp_ret]; imodintro
  iapply (Entails.of_eq (pointsTo_congr (stored_keep m c f))) $$ H

theorem run_keep (c : Dev nD) : iprop(∃ f, rPts (F := F) c c f) ⊢ Runs c (keep c (colBlk3 0 (prod (xstg m c) (wCol m c 0)))) (fun _ => rPts c c (rF m c)) :=
  run_keep' m c (k0_off2 c) (k0_off2_eq c)

/-- What sending `s` places on takes: the two duties' tokens, the send slot, and the receiver's slot. -/
def sendRes (c : Dev nD) (s : Fin 32) : sProp 𝕄 :=
  iprop(dutyTok ER (rCell (fwd c s) c) 0 0 ∗ dutyTok ER (sCell c s) 0 0 ∗ (∃ f, yPts (F := F) c s f) ∗ ∃ f, rPts (F := F) (fwd c s) c f)

set_option maxHeartbeats 1000000 in
/-- The transfer itself, the receiver and its slot and cell named by number. -/
theorem run_dma' (c n : Dev nD) (s : Fin 32) (h1 : 1 ≤ s.val) (hn : n = fwd c s) (off : Fin 3 → ℕ) (ho : off = ![c.val, 0, 0]) (offS : Fin 1 → ℕ) (hoS : offS = ![c.val])
    {inb : ∀ a, off a + S1x256x128.size a ≤ S32x256x128.size a} {inbS : ∀ a, offS a + S1.size a ≤ S32.size a}
    (hsrc : (yV s).view.WordExact) (hdst : (rVAt off inb).view.WordExact) :
    iprop(ctx m ∗ ow c (owedRecv c s.val) ∗ dutyTok ER (rCell (fwd c s) c) 0 0 ∗ dutyTok ER (sCell c s) 0 0 ∗ yPts c s (yF m c) ∗ ∃ f, rPts (F := F) (fwd c s) c f)
      ⊢ Runs c (Prog.lift (.enqueueDma (yV s) (.remote (Dev.tc n) (rVAt off inb) (.dma (sSem s).sem)) (.dma (rSemAt offS inbS).sem) hsrc hdst ⟨⟨rfl, Or.inl rfl⟩, trivial⟩))
        (fun _ => iprop(ow c (owedRecv c (s.val + 1)) ∗ cred (tallyAt (sCell c s) () N))) := by
  subst hn; subst ho; subst hoS
  unfold ow
  rw [owedRecv_step c s]
  simp only [Prog.lift]
  iintro ⟨#HC, ⟨%W, HO⟩, HtR, HtS, Hy, ⟨%f, Hr⟩⟩
  ihave #Hks := (ctx_send m c s) $$ HC
  ihave #Hkr := (ctx_recv m (fwd c s) c) $$ HC
  unfold known
  icases Hks with ⟨⟨%κ₁, #HIs⟩, #Hrs⟩
  icases Hkr with ⟨⟨%κ₂, #HIr⟩, #Hrr⟩
  ihave Hy := (Entails.of_eq (yPts_eq c s (yF m c))) $$ Hy
  ihave Hr := (Entails.of_eq (rPts_eq (fwd c s) c f)) $$ Hr
  iapply (Rounds.wp_send_pointsTo 𝒱₀ ER (Rd m) (c : Thread nD τ) none (κ₁ := κ₁) (κ₂ := κ₂)
    (r₁ := 0) (r₂ := 0) (d₁ := 0) (d₂ := 0) (fd := f)
    (src := yV s) (sS := .dma (sSem s).sem) (sem := .dma (rSem c).sem) (dst := rV c) (c' := (fwd c s : Thread nD τ))
    (by rw [duties_send m c s h1]; exact Finset.mem_singleton_self _)
    (by rw [duties_recv m (fwd c s) c (fwd_ne c s h1).symm]; exact Finset.mem_singleton_self _)
    () () N rfl (amount_dma m c _ 0) (amount_dma m (fwd c s) _ 0) (owedRecv c (s.val + 1)) rfl (W := W)
    (by rw [payload_send, yPts_eq])
    (by rw [payload_recv, set_rV]; exact Entails.of_eq (pointsTo_congr (landed_r m c s f)))) $$ [HO HtR HtS Hy Hr]
  · isplitr; · iexact HIs
    isplitr; · iexact HIr
    isplitl [Hy]; · iexact Hy
    isplitl [Hr]; · iexact Hr
    isplitl [HO]; · iexact HO
    isplitl [HtS]; · iexact HtS
    isplitr; · iexact Hrs
    isplitl [HtR]; · iexact HtR
    iexact Hrr
  iintro ⟨Hc, HO⟩
  rw [wp_ret]; imodintro
  isplitl [HO]; · iexists W; iexact HO
  iexact Hc

/-- Block `j` of step `t` staged and sent, at a distance of at least one. -/
theorem run_send (c : Dev nD) (t : Fin 8) (j : Fin 4) (h1 : 1 ≤ (far t j).val) :
    iprop(ctx m ∗ ow c (owedRecv c (far t j).val) ∗ sendRes c (far t j))
      ⊢ Runs c (send c (far t j) (colBlk3 j (prod (xstg m c) (wCol m c t))))
        (fun _ => iprop(ow c (owedRecv c ((far t j).val + 1)) ∗ cred (tallyAt (sCell c (far t j)) () N))) := by
  unfold send sendRes
  iintro ⟨#HC, HO, HtR, HtS, ⟨%f, Hy⟩, Hr⟩
  simp only [Prog.lift, Prog.bind_op, Prog.bind_ret]
  unfold yPts
  iapply (wp_load 𝒱₀ (c : Thread nD τ) none Set.univ (m := yM) (S := (slotR (far t j)).set) (by
    intro i hi; obtain ⟨x, hx, rfl⟩ := Finset.mem_map.mp hi; exact hx)) $$ Hy; iintro Hy
  iapply (wp_store 𝒱₀ (c : Thread nD τ) none Set.univ (m := yM) (r := slotR (far t j)) (Mk := Finset.univ) (S := (slotR (far t j)).set)
    (by rw [View.setOn_univ]; exact (View.set_slice_whole cc0_scratch1 (slotR (far t j))).subset)) $$ Hy; iintro Hy
  ihave Hy := (show _ ⊢ yPts c (far t j) (yF m c) from Entails.of_eq (pointsTo_congr (stored_y m c t j f))) $$ Hy
  iapply (run_dma' m c (devF c (far t j)) (far t j) h1 (devF_eq c (far t j)) (k0_off4 c) (k0_off4_eq c) (k0_off3 c) (k0_off3_eq c) _ _)
  isplitr; · iexact HC
  isplitl [HO]; · iexact HO
  isplitl [HtR]; · iexact HtR
  isplitl [HtS]; · iexact HtS
  isplitl [Hy] <;> iassumption

/-! ## The final waits -/

/-- What the waits for distance `s` take, -/
def waitRes (c : Dev nD) (s : Fin 32) : sProp 𝕄 :=
  iprop(cred (tallyAt (sCell c s) () N) ∗ atPos ER (sCell c s) 0 ∅ 0 ∗ cred (tallyAt (rCell c (fwd c s)) () N) ∗ atPos ER (rCell c (fwd c s)) 0 ∅ 0)
/-- and give: the send slot back, the received block, and the two cells at zero. -/
def gotRes (c : Dev nD) (s : Fin 32) : sProp 𝕄 :=
  iprop(yPts c s (yF m c) ∗ rPts c (fwd c s) (rF m c) ∗ semVal (sCell c s) 0 ∗ semVal (rCell c (fwd c s)) 0)

theorem run_drain' (c : Dev nD) (s : Fin 32) (h1 : 1 ≤ s.val) (off : Fin 3 → ℕ) (ho : off = ![(fwd c s).val, 0, 0]) (offS : Fin 1 → ℕ) (hoS : offS = ![(fwd c s).val])
    {inb : ∀ a, off a + S1x256x128.size a ≤ S32x256x128.size a} {inbS : ∀ a, offS a + S1.size a ≤ S32.size a}
    {hr hr' : (rVAt off inb).view.WordExact} {hy hy' : (yV s).view.WordExact} :
    iprop(ctx m ∗ ow c 0 ∗ waitRes c s)
      ⊢ Runs c ((Prog.lift (.waitDma2 (sSem s).sem (rVAt off inb) (yV s) hr hy) : PG F PUnit).bind fun _ =>
          Prog.lift (.waitDma2 (rSemAt offS inbS).sem (yV s) (rVAt off inb) hy' hr'))
        (fun _ => iprop(ow c 0 ∗ gotRes m c s)) := by
  subst ho; subst hoS
  unfold ow waitRes
  simp only [Prog.lift, Prog.bind_op, Prog.bind_ret]
  iintro ⟨#HC, ⟨%W, HO⟩, HcS, HaS, HcR, HaR⟩
  ihave #Hks := (ctx_send m c s) $$ HC
  ihave #Hkr := (ctx_recv m c (fwd c s)) $$ HC
  ihave #Hks' := (ctx_send m c s) $$ HC
  ihave #Hkr' := (ctx_recv m c (fwd c s)) $$ HC
  unfold known
  icases Hks' with ⟨⟨%κ₁, #HIs⟩, -⟩
  icases Hkr' with ⟨⟨%κ₂, #HIr⟩, -⟩
  iapply (Rounds.wp_wait_rest_token 𝒱₀ ER (Rd m) (c : Thread nD τ) none (κ := κ₁)
      (wpE_waitDma2_eq 𝒱₀ (c : Thread nD τ) none Set.univ) (Set.mem_univ _) () (O := 0) (W := W) (R := 0) (m := 0) (T := ∅)
      (by rw [Nat.zero_add, expect_send m c s h1])) $$ [HcS HO HaS]
  · isplitr; · iexact HIs
    isplitl [HcS]; · iexact HcS
    isplitl [HO]; · iexact HO
    isplitr; · rw [MayWait_zero]; iempintro
    iexact HaS
  iintro ⟨HO, HaS, -, Hpay⟩
  ihave Hy := (Entails.of_eq (rest_send m c s h1)) $$ Hpay
  iapply (Rounds.wp_wait_rest_token 𝒱₀ ER (Rd m) (c : Thread nD τ) none (κ := κ₂)
      (wpE_waitDma2_eq 𝒱₀ (c : Thread nD τ) none Set.univ) (Set.mem_univ _) () (O := 0) (W := insert (SemLoc.dma (sSem s).sem, ()) W) (R := 0) (m := 0) (T := ∅)
      (by rw [Nat.zero_add, expect_recv m c (fwd c s) (fwd_ne c s h1)])) $$ [HcR HO HaR]
  · isplitr; · iexact HIr
    isplitl [HcR]; · iexact HcR
    isplitl [HO]; · iexact HO
    isplitr; · rw [MayWait_zero]; iempintro
    iexact HaR
  iintro ⟨HO, HaR, -, Hpay⟩
  ihave Hr := (Entails.of_eq (rest_recv m c (fwd c s) (fwd_ne c s h1))) $$ Hpay
  imod (close m (sCell c s) (0 + 1) (duties_later m (sCell c s))) $$ [HaS] with HzS
  · isplitr; · unfold known; iexact Hks
    iexact HaS
  imod (close m (rCell c (fwd c s)) (0 + 1) (duties_later m (rCell c (fwd c s)))) $$ [HaR] with HzR
  · isplitr; · unfold known; iexact Hkr
    iexact HaR
  rw [wp_ret]; imodintro
  unfold gotRes
  isplitl [HO]; · iexists _; iexact HO
  isplitl [Hy]; · iexact Hy
  isplitl [Hr]; · iexact Hr
  isplitl [HzS] <;> iassumption

theorem run_drain (c : Dev nD) (i : Fin 31) :
    iprop(ctx m ∗ ow c 0 ∗ waitRes c (dist i)) ⊢ Runs c (drain c i) (fun _ => iprop(ow c 0 ∗ gotRes m c (dist i))) :=
  run_drain' m c (dist i) (by show 1 ≤ 1 + i.val; omega)
    (k0_off5 c (BitVec.ofNat 32 (1 + i.val))) ((k0_off5_eq c i).trans (by rw [show (c.val + i.val + 1) % 32 = (fwd c (dist i)).val from congrArg (· % 32) (by show c.val + i.val + 1 = c.val + (1 + i.val); omega)]))
    (k0_off6 c (BitVec.ofNat 32 (1 + i.val))) ((k0_off6_eq c i).trans (by rw [show (c.val + i.val + 1) % 32 = (fwd c (dist i)).val from congrArg (· % 32) (by show c.val + i.val + 1 = c.val + (1 + i.val); omega)]))

end Cert.KernelIdeal.Rot

end
-- ==== Proof.Ideal.Body.lean ====
/-
The body run from start to end: the loops over the pieces, a step, and the whole, at a device named by a variable.
-/
module

public import proofs.«01_k».proof.Proof.Ideal.Pieces

@[expose] public section

noncomputable section

namespace Cert.KernelIdeal.Rot

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## Families by distance, and by step and block -/

section
omit [FloatOps F]
theorem sep_none (P : sProp 𝕄) : iprop(P ∗ emp) = P := sep_emp_eq P
theorem none_sep (P : sProp 𝕄) : iprop(emp ∗ P) = P := emp_sep_eq P
theorem each_sep {I : Type} (s : Finset I) (Φ Ψ : I → sProp 𝕄) : (bigSep s fun i => iprop(Φ i ∗ Ψ i)) = iprop(bigSep s Φ ∗ bigSep s Ψ) := bigSep_sep s Φ Ψ
theorem each_mono {I : Type} (s : Finset I) {Φ Ψ : I → sProp 𝕄} (h : ∀ i, Φ i ⊢ Ψ i) : bigSep s Φ ⊢ bigSep s Ψ := bigSep_mono fun i _ => h i
theorem each_none {I : Type} (s : Finset I) : (bigSep s fun _ => (iprop(emp) : sProp 𝕄)) = iprop(emp) := bigSep_emp_const s
end

/-- Step `t`'s block `j` is the one at distance `4 t + j`. -/
def place : Fin 8 × Fin 4 ≃ Fin 32 where
  toFun p := far p.1 p.2
  invFun s := (⟨s.val / 4, by omega⟩, ⟨s.val % 4, by omega⟩)
  left_inv p := by
    obtain ⟨⟨t, ht⟩, ⟨j, hj⟩⟩ := p
    refine Prod.ext (Fin.ext ?_) (Fin.ext ?_)
    · show (4 * t + j) / 4 = t; omega
    · show (4 * t + j) % 4 = j; omega
  right_inv s := by refine Fin.ext ?_; show 4 * (s.val / 4) + s.val % 4 = s.val; omega

omit [FloatOps F] in
theorem each_far (Φ : Fin 32 → sProp 𝕄) :
    bigSep Finset.univ Φ = bigSep Finset.univ fun t : Fin 8 => bigSep Finset.univ fun j : Fin 4 => Φ (far t j) := by
  rw [bigSep_univ_equiv place Φ, bigSep_univ_prod]; rfl

theorem dist_inj : Function.Injective dist := fun i i' h => Fin.ext (by
  have : 1 + i.val = 1 + i'.val := congrArg Fin.val h
  omega)
theorem dist_cover : upFrom 32 1 = (Finset.univ : Finset (Fin 31)).map ⟨dist, dist_inj⟩ := by decide
omit [FloatOps F] in
theorem each_dist (Φ : Fin 32 → sProp 𝕄) : bigSep (upFrom 32 1) Φ = bigSep Finset.univ fun i : Fin 31 => Φ (dist i) := by
  rw [dist_cover, bigSep_map]; rfl

omit [FloatOps F] in
theorem first_of (Φ : Fin 8 → sProp 𝕄) : bigSep Finset.univ Φ = iprop(Φ 0 ∗ bigSep Finset.univ fun t : Fin 7 => Φ t.succ) := by
  rw [show (Finset.univ : Finset (Fin 8)) = insert 0 ((Finset.univ : Finset (Fin 7)).map (Fin.succEmb 7)) by decide,
    bigSep_insert (by decide), bigSep_map]; rfl
omit [FloatOps F] in
theorem last_of (Φ : Fin 8 → sProp 𝕄) : bigSep Finset.univ Φ = iprop(Φ 7 ∗ bigSep Finset.univ fun t : Fin 7 => Φ t.castSucc) := by
  rw [show (Finset.univ : Finset (Fin 8)) = insert 7 ((Finset.univ : Finset (Fin 7)).map Fin.castSuccEmb) by decide,
    bigSep_insert (by decide), bigSep_map]; rfl

/-- The rule of a loop each of whose turns `i` turns `A i` into `B i`, beside a state `J`. -/
theorem loop_each {n₀ : ℕ} (c : Dev nD) (f : Fin n₀ → PG F PUnit) (C : sProp 𝕄) [BI.Persistent C] (J : ℕ → sProp 𝕄) (A B : Fin n₀ → sProp 𝕄)
    (h : ∀ i : Fin n₀, iprop(C ∗ J i.val ∗ A i) ⊢ Runs c (f i) (fun _ => iprop(J (i.val + 1) ∗ B i))) (hk : 0 + n₀ ≤ n₀) :
    iprop(C ∗ J 0 ∗ bigSep Finset.univ A) ⊢ Runs c (loop f n₀ 0 hk) (fun _ => iprop(J n₀ ∗ bigSep Finset.univ B)) := by
  have step : ∀ i : Fin n₀, iprop(C ∗ (J i.val ∗ bigSep (upFrom n₀ i.val) A ∗ bigSep (below n₀ i.val) B))
      ⊢ Runs c (f i) (fun _ => iprop(J (i.val + 1) ∗ bigSep (upFrom n₀ (i.val + 1)) A ∗ bigSep (below n₀ (i.val + 1)) B)) := by
    intro i
    rw [take_first i.val i.isLt A, put_next i.val i.isLt B]
    refine .trans (Q := iprop(iprop(C ∗ J i.val ∗ A i) ∗ (bigSep (upFrom n₀ (i.val + 1)) A ∗ bigSep (below n₀ i.val) B))) ?_ ?_
    · iintro ⟨HC, HJ, ⟨HA, HAs⟩, HBs⟩
      isplitl [HC HJ HA]
      · isplitl [HC]; · iexact HC
        isplitl [HJ] <;> iassumption
      isplitl [HAs] <;> iassumption
    refine (sep_mono (h i) (.refl _)).trans ((wp_frame_r _ _ _).trans (wp_mono _ _ _ fun _ => ?_))
    iintro ⟨⟨HJ, HB⟩, HAs, HBs⟩
    isplitl [HJ]; · iexact HJ
    isplitl [HAs]; · iexact HAs
    isplitl [HB] <;> iassumption
  have key := loop_rule c f C (fun k => iprop(J k ∗ bigSep (upFrom n₀ k) A ∗ bigSep (below n₀ k) B)) step n₀ 0 hk
  have e0 : iprop(J 0 ∗ bigSep (upFrom n₀ 0) A ∗ bigSep (below n₀ 0) B) = iprop(J 0 ∗ bigSep Finset.univ A) := by
    rw [upFrom_zero, put_none, sep_none]
  have e1 : iprop(J (0 + n₀) ∗ bigSep (upFrom n₀ (0 + n₀)) A ∗ bigSep (below n₀ (0 + n₀)) B) = iprop(J n₀ ∗ bigSep Finset.univ B) := by
    rw [Nat.zero_add, take_none n₀ le_rfl, below_all n₀ n₀ le_rfl, none_sep]
  simp only [e0, e1] at key
  exact key

variable (m : (ℓ : Loc nD τ sig) → Buf (Elt F) ℓ)

/-! ## What the steps hold -/

/-- The staged block of `x`. -/
def xPts (c : Dev nD) : sProp 𝕄 := ((c : Thread nD τ).loc cc0_stg0_0) ↦{fullShare} xstg m c
/-- The weight's four blocks of step `t`. -/
def grp (c : Dev nD) (t : Fin 8) : sProp 𝕄 := bigSep Finset.univ fun j : Fin 4 => colPts m c (blkNo c t j)
/-- The four copies of step `t` in flight. -/
def flts (c : Dev nD) (t : Fin 8) : sProp 𝕄 := bigSep Finset.univ fun j : Fin 4 => flight m c t j
/-- A slot of the weight's buffer with no copy in flight. -/
def idle (c : Dev nD) (h : Fin 2) : sProp 𝕄 := bigSep Finset.univ fun j : Fin 4 => iprop((∃ f, wbPts (F := F) c h j f) ∗ semVal (wCell c h j) 0)
/-- What distance `s` takes: 0 keeps, the others send; -/
def outRes (c : Dev nD) (s : Fin 32) : sProp 𝕄 := if s.val = 0 then iprop(∃ f, rPts (F := F) c c f) else sendRes c s
/-- and leaves. -/
def doneRes (c : Dev nD) (s : Fin 32) : sProp 𝕄 := if s.val = 0 then rPts c c (rF m c) else cred (tallyAt (sCell c s) () N)
def outs (c : Dev nD) (t : Fin 8) : sProp 𝕄 := bigSep Finset.univ fun j : Fin 4 => outRes c (far t j)
def dones (c : Dev nD) (t : Fin 8) : sProp 𝕄 := bigSep Finset.univ fun j : Fin 4 => doneRes m c (far t j)
/-- What the device still owes the receive cells when the distances below `k` are done. -/
def owing (c : Dev nD) (k : ℕ) : sProp 𝕄 := ow (F := F) c (owedRecv c (max k 1))

/-! ## The loops -/

theorem run_sigs (c : Dev nD) :
    iprop(ctx m ∗ ow c (O₀ c) ∗ bigSep (upFrom 32 1) (barRes c))
      ⊢ Runs c (loop (sigStep c) 31 0 (Nat.le_refl _)) (fun _ => ow c (owedRecv c 1)) := by
  have key := loop_each c (sigStep c) (ctx m) (fun k => ow c (owedRecv c 1 + owedBar c (1 + k))) (fun i => barRes c (dist i)) (fun _ => iprop(emp))
    (fun i => (run_sig m c i).trans (wp_mono _ _ _ fun _ => Entails.of_eq (sep_none _).symm)) (Nat.le_refl _)
  rw [each_dist]
  refine key.trans (wp_mono _ _ _ fun _ => ?_)
  rw [each_none, sep_none, show (1 + 31 : ℕ) = 32 from rfl, owedBar_none, add_zero]

theorem run_starts (c : Dev nD) (t : Fin 8) :
    iprop(idle c (half t) ∗ grp m c t) ⊢ Runs c (loop (startW c t) 4 0 (Nat.le_refl _)) (fun _ => flts m c t) := by
  have key := loop_each c (startW c t) iprop(emp) (fun _ => iprop(emp))
    (fun j => iprop((∃ f, wbPts c (half t) j f) ∗ colPts m c (blkNo c t j) ∗ semVal (wCell c (half t) j) 0)) (fun j => flight m c t j)
    (fun j => by
      rw [none_sep, none_sep]
      exact (run_start m c t j).trans (wp_mono _ _ _ fun _ => Entails.of_eq (none_sep _).symm)) (Nat.le_refl _)
  simp only [none_sep] at key
  refine .trans ?_ key
  unfold idle grp
  rw [← each_sep]
  refine each_mono _ fun j => ?_
  iintro ⟨⟨Hw, Hv⟩, Hc⟩
  isplitl [Hw]; · iexact Hw
  isplitl [Hc] <;> iassumption

theorem run_waits (c : Dev nD) (t : Fin 8) (k : ℕ) :
    iprop(ctx m ∗ owing c k ∗ flts m c t)
      ⊢ Runs c (loop (waitW c t) 4 0 (Nat.le_refl _)) (fun _ => iprop(owing c k
          ∗ (bigSep Finset.univ fun j : Fin 4 => wbPts c (half t) j (wbF m c t)) ∗ grp m c t ∗ bigSep Finset.univ fun j : Fin 4 => semVal (wCell c (half t) j) 0)) := by
  have key := loop_each c (waitW c t) (ctx m) (fun _ => owing c k) (fun j => flight m c t j)
    (fun j => iprop(wbPts c (half t) j (wbF m c t) ∗ colPts m c (blkNo c t j) ∗ semVal (wCell c (half t) j) 0))
    (fun j => run_waitW m c t j (max k 1)) (Nat.le_refl _)
  refine key.trans (wp_mono _ _ _ fun _ => ?_)
  unfold grp
  rw [each_sep, each_sep]

theorem run_emit (c : Dev nD) (t : Fin 8) (j : Fin 4) :
    iprop(ctx m ∗ owing c (4 * t.val + j.val) ∗ outRes c (far t j))
      ⊢ Runs c (emit c t (prod (xstg m c) (wCol m c t)) j) (fun _ => iprop(owing c (4 * t.val + (j.val + 1)) ∗ doneRes m c (far t j))) := by
  unfold emit outRes doneRes owing
  by_cases h : 4 * t.val + j.val = 0
  · obtain rfl : t = 0 := Fin.ext (by show t.val = 0; omega)
    obtain rfl : j = 0 := Fin.ext (by show j.val = 0; omega)
    rw [if_pos h, if_pos (show (far 0 0).val = 0 from rfl), if_pos (show (far 0 0).val = 0 from rfl)]
    iintro ⟨-, HO, Hr⟩
    iapply (wp_wand _ _ _) $$ [Hr]
    · iapply (run_keep m c); iexact Hr
    iintro %_ Hr
    isplitl [HO]; · iexact HO
    iexact Hr
  · rw [if_neg h, if_neg (show ¬ (far t j).val = 0 from h), if_neg (show ¬ (far t j).val = 0 from h), Nat.max_eq_left (by omega), Nat.max_eq_left (by omega)]
    exact run_send m c t j (by show 1 ≤ 4 * t.val + j.val; omega)

theorem run_emits (c : Dev nD) (t : Fin 8) :
    iprop(ctx m ∗ owing c (4 * t.val) ∗ outs c t)
      ⊢ Runs c (loop (emit c t (prod (xstg m c) (wCol m c t))) 4 0 (Nat.le_refl _)) (fun _ => iprop(owing c (4 * (t.val + 1)) ∗ dones m c t)) :=
  loop_each c (emit c t (prod (xstg m c) (wCol m c t))) (ctx m) (fun k => owing c (4 * t.val + k)) (fun j => outRes c (far t j)) (fun j => doneRes m c (far t j))
    (run_emit m c t) (Nat.le_refl _)

theorem run_drains (c : Dev nD) :
    iprop(ctx m ∗ ow c 0 ∗ bigSep (upFrom 32 1) (waitRes c))
      ⊢ Runs c (loop (drain c) 31 0 (Nat.le_refl _)) (fun _ => iprop(ow c 0 ∗ bigSep (upFrom 32 1) (gotRes m c))) := by
  rw [each_dist, each_dist]
  exact loop_each c (drain c) (ctx m) (fun _ => ow c 0) (fun i => waitRes c (dist i)) (fun i => gotRes m c (dist i)) (run_drain m c) (Nat.le_refl _)

/-! ## The two operands read, the product -/

/-- A slot of the weight's buffer, whole. -/
def slotPts (c : Dev nD) (h : Fin 2) (f : Vec F S2x8192x512 .f32) : sProp 𝕄 :=
  ((c : Thread nD τ).loc cc0_scratch0) ↦[(Finset.univ : Finset (Fin 4)).biUnion fun j => (wbR h j).set]{fullShare} f
theorem slotPts_eq (c : Dev nD) (h : Fin 2) (f : Vec F S2x8192x512 .f32) :
    slotPts c h f = (bigSep Finset.univ fun j : Fin 4 => wbPts c h j f : sProp 𝕄) := by
  unfold slotPts wbPts
  exact pointsTo_biUnion _ _ (fun j _ j' _ hne => wbs_disjoint h j j' hne)

theorem run_loadX (c : Dev nD) : xPts m c ⊢ Runs c loadX (fun x => iprop(⌜x = xstg m c⌝ ∗ xPts m c)) := by
  unfold loadX xPts
  simp only [Prog.lift]
  iintro H
  iapply (wp_load 𝒱₀ (c : Thread nD τ) none Set.univ (m := xM) (S := Finset.univ) (Finset.subset_univ _)) $$ H; iintro H
  rw [wp_ret]; imodintro
  isplitr; · ipureintro; exact read_x _
  iexact H
theorem run_loadW (c : Dev nD) (t : Fin 8) : slotPts c (half t) (wbF m c t) ⊢ Runs c (loadW (half t)) (fun w => iprop(⌜w = wCol m c t⌝ ∗ slotPts c (half t) (wbF m c t))) := by
  unfold loadW slotPts
  simp only [Prog.lift]
  iintro H
  iapply (wp_load 𝒱₀ (c : Thread nD τ) none Set.univ (m := wbM) (S := _) (wload_set (half t))) $$ H; iintro H
  rw [wp_ret]; imodintro
  isplitr; · ipureintro; exact read_w m c t
  iexact H

/-- A step whose copies are in flight: it ends with the slot idle, the weight's blocks back, its four distances done. -/
theorem run_main (c : Dev nD) (t : Fin 8) :
    iprop(ctx m ∗ owing c (4 * t.val) ∗ xPts m c ∗ flts m c t ∗ outs c t)
      ⊢ Runs c (mainStep c t) (fun _ => iprop(owing c (4 * (t.val + 1)) ∗ xPts m c ∗ idle c (half t) ∗ grp m c t ∗ dones m c t)) := by
  unfold mainStep
  iintro ⟨#HC, HO, Hx, HF, Hout⟩
  iapply (use (run_waits m c t (4 * t.val))) $$ [HO HF]
  · isplitr; · iexact HC
    isplitl [HO] <;> iassumption
  iintro %_ ⟨HO, Hw, Hg, Hv⟩
  iapply (use (run_loadX m c)) $$ Hx
  iintro %x ⟨%hx, Hx⟩
  subst hx
  ihave Hw := (Entails.of_eq (slotPts_eq c (half t) (wbF m c t)).symm) $$ Hw
  iapply (use (run_loadW m c t)) $$ Hw
  iintro %w ⟨%hw, Hw⟩
  subst hw
  ihave Hw := (Entails.of_eq (slotPts_eq c (half t) (wbF m c t))) $$ Hw
  iapply (wp_wand _ _ _) $$ [HO Hout]
  · iapply (run_emits m c t)
    isplitr; · iexact HC
    isplitl [HO] <;> iassumption
  iintro %_ ⟨HO, Hd⟩
  isplitl [HO]; · iexact HO
  isplitl [Hx]; · iexact Hx
  isplitl [Hw Hv]
  · unfold idle
    rw [each_sep]
    isplitl [Hw]
    · iapply (each_mono Finset.univ (Φ := fun j : Fin 4 => wbPts c (half t) j (wbF m c t)) (Ψ := fun j : Fin 4 => iprop(∃ f, wbPts c (half t) j f))
        fun j => exists_intro (Φ := fun f => wbPts c (half t) j f) (wbF m c t)) $$ Hw
    iexact Hv
  isplitl [Hg] <;> iassumption

/-- A step with the next one's copies started first. -/
theorem run_step (c : Dev nD) (i : Fin 7) :
    iprop(ctx m ∗ (owing c (4 * i.val) ∗ xPts m c ∗ flts m c i.castSucc ∗ idle c (half i.succ)) ∗ grp m c i.succ ∗ outs c i.castSucc)
      ⊢ Runs c (step c i) (fun _ => iprop((owing c (4 * (i.val + 1)) ∗ xPts m c ∗ flts m c i.succ ∗ idle c (half i.castSucc))
          ∗ grp m c i.castSucc ∗ dones m c i.castSucc)) := by
  unfold step
  iintro ⟨#HC, ⟨HO, Hx, HF, Hi⟩, Hg, Hout⟩
  iapply (use (run_starts m c i.succ)) $$ [Hi Hg]
  · isplitl [Hi] <;> iassumption
  iintro %_ HF'
  iapply (wp_wand _ _ _) $$ [HO Hx HF Hout]
  · iapply (run_main m c i.castSucc)
    isplitr; · iexact HC
    isplitl [HO]; · iexact HO
    isplitl [Hx]; · iexact Hx
    isplitl [HF] <;> iassumption
  iintro %_ ⟨HO, Hx, Hi, Hg, Hd⟩
  isplitl [HO Hx HF' Hi]
  · isplitl [HO]; · iexact HO
    isplitl [Hx]; · iexact Hx
    isplitl [HF'] <;> iassumption
  isplitl [Hg] <;> iassumption

/-! ## The whole body -/

/-- The receive slots, whole. -/
def rWhole (c : Dev nD) (f : Vec F S32x256x128 .bf16) : sProp 𝕄 := ((c : Thread nD τ).loc cc0_scratch2) ↦{fullShare} f
/-- The result's staging buffer, whole. -/
def oPts (c : Dev nD) (f : Vec F S8192x128 .f32) : sProp 𝕄 := ((c : Thread nD τ).loc cc0_stg1_0) ↦{fullShare} f

theorem rWhole_eq (c : Dev nD) (f : Vec F S32x256x128 .bf16) : rWhole c f = (bigSep Finset.univ fun s : Fin 32 => rPts c s f : sProp 𝕄) := by
  unfold rWhole rPts
  rw [← slots_cover]
  exact pointsTo_biUnion _ _ (fun s _ s' _ hne => slots_disjoint s s' hne)

/-- The last part: the receive slots read, widened and stored as the result. -/
theorem run_finish (c : Dev nD) : iprop(rWhole c (rF m c) ∗ ∃ f, oPts c f) ⊢ Runs c finish (fun _ => iprop(rWhole c (rF m c) ∗ oPts c (outAt m c))) := by
  unfold finish rWhole oPts
  simp only [Prog.lift, Prog.bind_op, Prog.bind_ret]
  iintro ⟨Hr, ⟨%f, Ho⟩⟩
  iapply (wp_load 𝒱₀ (c : Thread nD τ) none Set.univ (m := rM) (S := Finset.univ) (Finset.subset_univ _)) $$ Hr; iintro Hr
  rw [read_r]
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S8192x128) ![0, 0] S8192x128.size inb_S8192x128_S8192x128_0_0)
    (Mk := Finset.univ) (S := Finset.univ) (Finset.subset_univ _)) $$ Ho; iintro Ho
  rw [write_o, wp_ret]; imodintro
  isplitl [Hr]; · iexact Hr
  iexact Ho

/-- The tokens a device pays with at distance `s`: the receiver's cell's and its own send cell's. -/
def tokRes (c : Dev nD) (s : Fin 32) : sProp 𝕄 := iprop(dutyTok ER (rCell (fwd c s) c) 0 0 ∗ dutyTok ER (sCell c s) 0 0)
/-- Its positions at the two cells of distance `s`, and the receive cell's credit. -/
def posRes (c : Dev nD) (s : Fin 32) : sProp 𝕄 :=
  iprop(atPos ER (sCell c s) 0 ∅ 0 ∗ cred (tallyAt (rCell c (fwd c s)) () N) ∗ atPos ER (rCell c (fwd c s)) 0 ∅ 0)

/-- What device `c` starts from. -/
def before (c : Dev nD) : sProp 𝕄 :=
  iprop(bigSep (upFrom 32 1) (barRes c) ∗ (cred (tallyAt (barCell c) () 31) ∗ atPos ER (barCell c) 0 ∅ 0)
    ∗ bigSep (upFrom 32 1) (tokRes c) ∗ bigSep (upFrom 32 1) (posRes c)
    ∗ (atPos ER (sCell c 0) 0 ∅ 0 ∗ atPos ER (rCell c c) 0 ∅ 0)
    ∗ (bigSep Finset.univ fun s : Fin 32 => iprop(∃ f, yPts (F := F) c s f)) ∗ (∃ f, rPts (F := F) c c f)
    ∗ idle c 0 ∗ idle c 1 ∗ bigSep Finset.univ (grp m c))
/-- What it ends with. -/
def after (c : Dev nD) : sProp 𝕄 :=
  iprop(semVal (barCell c) 0 ∗ (bigSep Finset.univ fun s : Fin 32 => semVal (sCell c s) 0) ∗ (bigSep Finset.univ fun s : Fin 32 => semVal (rCell c s) 0)
    ∗ (bigSep Finset.univ fun s : Fin 32 => iprop(∃ f, yPts (F := F) c s f)) ∗ rWhole c (rF m c)
    ∗ idle c 0 ∗ idle c 1 ∗ bigSep Finset.univ (grp m c))

theorem at_zero (Φ : Fin 32 → sProp 𝕄) : bigSep Finset.univ Φ = iprop(Φ 0 ∗ bigSep (upFrom 32 1) Φ) := by
  rw [← upFrom_zero 32, take_first 0 (by decide)]; rfl

/-- The tokens, the send slots and the receivers' slots make what the sends take. -/
theorem outs_intro (c : Dev nD) :
    iprop(bigSep (upFrom 32 1) (tokRes c) ∗ (bigSep (upFrom 32 1) fun s => iprop(∃ f, yPts (F := F) c s f))
        ∗ (bigSep (upFrom 32 1) fun s => iprop(∃ f, rPts (F := F) (fwd c s) c f)) ∗ (∃ f, rPts (F := F) c c f))
      ⊢ bigSep Finset.univ (outs c) := by
  have e : bigSep Finset.univ (outs (F := F) c) = iprop(outRes c 0 ∗ bigSep (upFrom 32 1) (sendRes c)) := by
    refine (each_far (outRes c)).symm.trans ((at_zero (outRes c)).trans (congrArg (fun P => iprop(outRes c 0 ∗ P)) ?_))
    exact bigSep_congr fun s hs => if_neg (by have : 1 ≤ s.val := (Finset.mem_filter.mp hs).2; omega)
  rw [e, show sendRes (F := F) c = fun s => iprop(dutyTok ER (rCell (fwd c s) c) 0 0 ∗ dutyTok ER (sCell c s) 0 0 ∗ (∃ f, yPts (F := F) c s f) ∗ ∃ f, rPts (F := F) (fwd c s) c f) from rfl,
    each_sep, each_sep, each_sep, show tokRes (F := F) c = fun s => iprop(dutyTok ER (rCell (fwd c s) c) 0 0 ∗ dutyTok ER (sCell c s) 0 0) from rfl, each_sep,
    show outRes (F := F) c 0 = iprop(∃ f, rPts (F := F) c c f) from rfl]
  iintro ⟨⟨H1, H2⟩, H3, H4, H5⟩
  isplitl [H5]; · iexact H5
  isplitl [H1]; · iexact H1
  isplitl [H2]; · iexact H2
  isplitl [H3] <;> iassumption

/-- What the sends left, with the positions: what the final waits take, and the slot kept. -/
theorem dones_elim (c : Dev nD) :
    iprop(bigSep Finset.univ (dones m c) ∗ bigSep (upFrom 32 1) (posRes c)) ⊢ iprop(rPts c c (rF m c) ∗ bigSep (upFrom 32 1) (waitRes c)) := by
  have e : bigSep Finset.univ (dones m c) = iprop(doneRes m c 0 ∗ bigSep (upFrom 32 1) fun s => cred (tallyAt (sCell c s) () N)) := by
    refine (each_far (doneRes m c)).symm.trans ((at_zero (doneRes m c)).trans (congrArg (fun P => iprop(doneRes m c 0 ∗ P)) ?_))
    exact bigSep_congr fun s hs => if_neg (by have : 1 ≤ s.val := (Finset.mem_filter.mp hs).2; omega)
  rw [e, show waitRes (F := F) c = fun s => iprop(cred (tallyAt (sCell c s) () N) ∗ posRes c s) from rfl, each_sep,
    show doneRes m c 0 = rPts c c (rF m c) from rfl]
  iintro ⟨⟨H1, H2⟩, H3⟩
  isplitl [H1]; · iexact H1
  isplitl [H2] <;> iassumption

/-- What the final waits gave, kind by kind. -/
theorem gots_elim (c : Dev nD) :
    bigSep (upFrom 32 1) (gotRes m c) ⊢ iprop((bigSep (upFrom 32 1) fun s => yPts c s (yF m c)) ∗ (bigSep (upFrom 32 1) fun s => rPts c (fwd c s) (rF m c))
      ∗ (bigSep (upFrom 32 1) fun s => semVal (sCell c s) 0) ∗ bigSep (upFrom 32 1) fun s => semVal (rCell c (fwd c s)) 0) := by
  rw [show gotRes m c = fun s => iprop(yPts c s (yF m c) ∗ rPts c (fwd c s) (rF m c) ∗ semVal (sCell c s) 0 ∗ semVal (rCell c (fwd c s)) 0) from rfl,
    each_sep, each_sep, each_sep]

theorem half_again : ∀ i : Fin 7, half (⟨(i.val + 1 + 1) % 8, Nat.mod_lt _ (by decide)⟩ : Fin 8) = half i.castSucc := by decide

/-- The seven steps and the last one. -/
theorem run_steps (c : Dev nD) {β : Type} (k : PG F β) (R : β → sProp 𝕄) :
    iprop(ctx m ∗ ow c (owedRecv c 1) ∗ xPts m c ∗ idle c 0 ∗ idle c 1 ∗ bigSep Finset.univ (grp m c) ∗ bigSep Finset.univ (outs c))
      ⊢ iprop((ow c 0 ∗ xPts m c ∗ idle c 0 ∗ idle c 1 ∗ bigSep Finset.univ (grp m c) ∗ bigSep Finset.univ (dones m c) -∗ Runs c k R)
          -∗ Runs c ((loop (startW c 0) 4 0 (Nat.le_refl _)).bind fun _ => (loop (step c) 7 0 (Nat.le_refl _)).bind fun _ => (mainStep c 7).bind fun _ => k) R) := by
  rw [first_of (grp m c), last_of (outs c)]
  iintro ⟨#HC, HO, Hx, Hi0, Hi1, ⟨Hg0, Hgs⟩, ⟨Ho7, Hos⟩⟩ Hk
  iapply (use (run_starts m c 0)) $$ [Hi0 Hg0]
  · isplitl [Hi0]; · iexact Hi0
    iexact Hg0
  iintro %_ HF
  iapply (use (loop_each c (step c) (ctx m)
    (fun k => iprop(owing c (4 * k) ∗ xPts m c ∗ flts m c ⟨k % 8, Nat.mod_lt _ (by decide)⟩ ∗ idle c (half (⟨(k + 1) % 8, Nat.mod_lt _ (by decide)⟩ : Fin 8))))
    (fun i => iprop(grp m c i.succ ∗ outs c i.castSucc)) (fun i => iprop(grp m c i.castSucc ∗ dones m c i.castSucc))
    (fun i => by
      have key := run_step m c i
      have e1 : (⟨i.val % 8, Nat.mod_lt _ (by decide)⟩ : Fin 8) = i.castSucc := Fin.ext (Nat.mod_eq_of_lt (by omega))
      have e2 : (⟨(i.val + 1) % 8, Nat.mod_lt _ (by decide)⟩ : Fin 8) = i.succ := Fin.ext (Nat.mod_eq_of_lt (by omega))
      have e3 := half_again i
      rw [e1, e2, e3]
      exact key) (Nat.le_refl _))) $$ [HO Hx HF Hi1 Hgs Hos]
  · isplitr; · iexact HC
    isplitl [HO Hx HF Hi1]
    · isplitl [HO]; · unfold owing; iexact HO
      isplitl [Hx]; · iexact Hx
      isplitl [HF]; · iexact HF
      iexact Hi1
    rw [each_sep]
    isplitl [Hgs] <;> iassumption
  iintro %_ ⟨⟨HO, Hx, HF, Hi0⟩, Hd⟩
  ihave Hd := (Entails.of_eq (each_sep Finset.univ (fun i : Fin 7 => grp m c i.castSucc) (fun i : Fin 7 => dones m c i.castSucc))) $$ Hd
  icases Hd with ⟨Hgs, Hds⟩
  iapply (use (run_main m c 7)) $$ [HO Hx HF Ho7]
  · isplitr; · iexact HC
    isplitl [HO]; · iexact HO
    isplitl [Hx]; · iexact Hx
    isplitl [HF]; · iexact HF
    iexact Ho7
  iintro %_ ⟨HO, Hx, Hi1, Hg7, Hd7⟩
  iapply Hk
  isplitl [HO]; · rw [← owedRecv_none c]; unfold owing; iexact HO
  isplitl [Hx]; · iexact Hx
  isplitl [Hi0]; · iexact Hi0
  isplitl [Hi1]; · iexact Hi1
  isplitl [Hg7 Hgs]
  · iapply (Entails.of_eq (by rw [← first_of (grp m c), last_of (grp m c)] : iprop(grp m c 7 ∗ bigSep Finset.univ fun t : Fin 7 => grp m c t.castSucc) = iprop(grp m c 0 ∗ bigSep Finset.univ fun t : Fin 7 => grp m c t.succ)))
    isplitl [Hg7] <;> iassumption
  rw [last_of (dones m c)]
  isplitl [Hd7] <;> iassumption

/-- The body, from `before` to `after`: the result's staging buffer ends at `outAt`. -/
theorem run_whole (c : Dev nD) :
    iprop(ctx m ∗ ow c (O₀ c) ∗ xPts m c ∗ (∃ f, oPts c f) ∗ before m c)
      ⊢ Runs c (run c) (fun _ => iprop(ow c 0 ∗ xPts m c ∗ oPts c (outAt m c) ∗ after m c)) := by
  unfold run before
  rw [at_zero (fun s => iprop(∃ f, yPts (F := F) c s f))]
  iintro ⟨#HC, HO, Hx, Ho, HB, ⟨HcB, HaB⟩, Htok, Hpos, ⟨HaS, HaR⟩, ⟨Hy0, Hys⟩, Hr, Hi0, Hi1, Hg⟩
  iapply (use (run_sigs m c)) $$ [HO HB]
  · isplitr; · iexact HC
    isplitl [HO] <;> iassumption
  iintro %_ HO
  iapply (use (run_bar m c)) $$ [HO HcB HaB]
  · isplitr; · iexact HC
    isplitl [HO]; · iexact HO
    isplitl [HcB] <;> iassumption
  iintro %_ ⟨HO, HzB, Hrs⟩
  iapply (run_steps m c) $$ [HO Hx Hi0 Hi1 Hg Htok Hys Hrs Hr]
  · isplitr; · iexact HC
    isplitl [HO]; · iexact HO
    isplitl [Hx]; · iexact Hx
    isplitl [Hi0]; · iexact Hi0
    isplitl [Hi1]; · iexact Hi1
    isplitl [Hg]; · iexact Hg
    iapply (outs_intro c)
    isplitl [Htok]; · iexact Htok
    isplitl [Hys]; · iexact Hys
    isplitl [Hrs] <;> iassumption
  iintro ⟨HO, Hx, Hi0, Hi1, Hg, Hd⟩
  ihave Hw := (dones_elim m c) $$ [Hd Hpos]
  · isplitl [Hd] <;> iassumption
  icases Hw with ⟨Hr, Hw⟩
  iapply (use (run_drains m c)) $$ [HO Hw]
  · isplitr; · iexact HC
    isplitl [HO] <;> iassumption
  iintro %_ ⟨HO, Hgot⟩
  ihave Hgot := (gots_elim m c) $$ Hgot
  icases Hgot with ⟨Hys, Hrs, HzS, HzR⟩
  imod (close m (sCell c 0) 0 (fun r _ => no_duties_dma m c _ (by rw [sSem_val]; show ¬ (10 < 10 + 0 ∧ 10 + 0 ≠ 42 + c.val); omega) r)) $$ [HaS] with HzS0
  · isplitr; · iapply (ctx_send m c 0); iexact HC
    iexact HaS
  imod (close m (rCell c c) 0 (fun r _ => no_duties_dma m c _ (by rw [rSem_val]; omega) r)) $$ [HaR] with HzR0
  · isplitr; · iapply (ctx_recv m c c); iexact HC
    iexact HaR
  iapply (wp_wand _ _ _) $$ [Hr Hrs Ho]
  · iapply (run_finish m c)
    isplitl [Hr Hrs]
    · rw [rWhole_eq, around c]
      isplitl [Hr] <;> iassumption
    iexact Ho
  iintro %_ ⟨Hr, Ho⟩
  isplitl [HO]; · iexact HO
  isplitl [Hx]; · iexact Hx
  isplitl [Ho]; · iexact Ho
  unfold after
  isplitl [HzB]; · iexact HzB
  isplitl [HzS HzS0]
  · rw [at_zero]
    isplitl [HzS0] <;> iassumption
  isplitl [HzR HzR0]
  · rw [around c]
    isplitl [HzR0] <;> iassumption
  isplitl [Hy0 Hys]
  · rw [at_zero]
    isplitl [Hy0]; · iexact Hy0
    iapply (each_mono (upFrom 32 1) (Φ := fun s : Fin 32 => yPts c s (yF m c)) (Ψ := fun s : Fin 32 => iprop(∃ f, yPts c s f))
        fun s => exists_intro (Φ := fun f => yPts c s f) (yF m c)) $$ Hys
  isplitl [Hr]; · iexact Hr
  isplitl [Hi0]; · iexact Hi0
  isplitl [Hi1] <;> iassumption

/-- Reading the device's own number. -/
theorem ask (c : Dev nD) (k : Dev nD → PG F PUnit) (Q : PUnit → sProp 𝕄) : Runs c (.op .deviceId k) Q = Runs c (k c) Q := by
  unfold Runs
  rw [wp_deviceId]

theorem run_prog (c : Dev nD) :
    iprop(ctx m ∗ ow c (O₀ c) ∗ xPts m c ∗ (∃ f, oPts c f) ∗ before m c)
      ⊢ Runs c prog (fun _ => iprop(ow c 0 ∗ xPts m c ∗ oPts c (outAt m c) ∗ after m c)) := by
  have e : prog (F := F) = .op .deviceId run := rfl
  rw [e, ask]
  exact run_whole m c

end Cert.KernelIdeal.Rot

end
-- ==== Proof.Ideal.Ghost.lean ====
/-
The launch, all devices at once: the protocol's cells and tokens made, every cell's invariant allocated, the tokens
dealt to the devices that pay the duties, and the credit each device starts with.
-/
module

public import proofs.«01_k».proof.Proof.Ideal.Body
public import Idealize.ShloMosaic.Lib.Pipeline.Launch
public import Idealize.ShloMosaic.Lib.Pipeline.Kit

@[expose] public section

noncomputable section

namespace Cert.KernelIdeal.Rot

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## A device's cells and tokens -/

/-- A device's send and receive cells, by slot; -/
abbrev Two : Type := Fin 32 ⊕ Fin 32
/-- those and its barrier; -/
abbrev Cells : Type := Two ⊕ Unit
/-- its own scoped semaphores: those two families and the weight copies'; -/
abbrev Owned : Type := Two ⊕ (Fin 2 × Fin 4)
/-- the duties at its cells: one at each send and receive cell, one of each payer at the barrier. -/
abbrev Toks : Type := Two ⊕ Fin 32

def twoSem : Two → SemLoc sig
  | .inl s => .dma (sSem s).sem
  | .inr s => .dma (rSem s).sem
def semOf : Cells → SemLoc sig
  | .inl k => twoSem k
  | .inr _ => .reg barS
def osem : Owned → SemLoc sig
  | .inl k => twoSem k
  | .inr p => .dma (wSem p.1 p.2).sem

/-- A semaphore's place in its table. -/
def numOf : SemLoc sig → ℕ
  | .reg _ => 0
  | .dma q => q.val

theorem num_send (s : Fin 32) : numOf (twoSem (.inl s)) = 10 + s.val := sSem_val s
theorem num_recv (s : Fin 32) : numOf (twoSem (.inr s)) = 42 + s.val := rSem_val s
theorem num_w (p : Fin 2 × Fin 4) : numOf (osem (.inr p)) = 2 + 4 * p.1.val + p.2.val := wSem_val p.1 p.2
theorem num_two (k : Two) : 10 ≤ numOf (twoSem k) := by
  rcases k with s | s
  · rw [num_send]; omega
  · rw [num_recv]; omega

theorem two_inj : Function.Injective twoSem := by
  intro k k' h
  have hn := congrArg numOf h
  rcases k with s | s <;> rcases k' with s' | s' <;> simp only [num_send, num_recv] at hn
  · exact congrArg Sum.inl (Fin.ext (by omega))
  · omega
  · omega
  · exact congrArg Sum.inr (Fin.ext (by omega))
theorem semOf_inj : Function.Injective semOf := by
  intro k k' h
  have hn := congrArg numOf h
  rcases k with k | u <;> rcases k' with k' | u'
  · exact congrArg Sum.inl (two_inj h)
  · have := num_two k; change numOf (twoSem k) = 0 at hn; omega
  · have := num_two k'; change 0 = numOf (twoSem k') at hn; omega
  · rfl
theorem osem_inj : Function.Injective osem := by
  intro k k' h
  have hn := congrArg numOf h
  rcases k with k | p <;> rcases k' with k' | p'
  · exact congrArg Sum.inl (two_inj h)
  · have := num_two k; rw [num_w] at hn; change numOf (twoSem k) = _ at hn; omega
  · have := num_two k'; rw [num_w] at hn; change _ = numOf (twoSem k') at hn; omega
  · rw [num_w, num_w] at hn
    exact congrArg Sum.inr (Prod.ext (Fin.ext (by omega)) (Fin.ext (by omega)))

theorem send_scoped : ∀ s : Fin 32, (SemLoc.dma (sSem s).sem : SemLoc sig).isScoped .tc = true := by decide
theorem recv_scoped : ∀ s : Fin 32, (SemLoc.dma (rSem s).sem : SemLoc sig).isScoped .tc = true := by decide
theorem w_scoped : ∀ p : Fin 2 × Fin 4, (SemLoc.dma (wSem p.1 p.2).sem : SemLoc sig).isScoped .tc = true := by decide
theorem stage_low : ∀ (w : Fin cfg0.W) (s : Fin (cfg0.win w).nbuf), ((cfg0.win w).sem s).val < 2 := by decide

theorem ownSemFacts : Pipeline.OwnSemFacts cfg0.spec osem where
  isScoped
    | .inl (.inl s) => send_scoped s
    | .inl (.inr s) => recv_scoped s
    | .inr p => w_scoped p
  inj := osem_inj
  disj k w s h := by
    have hn := congrArg numOf h
    have hl : numOf (.dma ((cfg0.win w).sem s)) < 2 := stage_low w s
    have hk : 2 ≤ numOf (osem k) := by
      rcases k with k | p
      · exact Nat.le_trans (by decide) (num_two k)
      · rw [num_w]; omega
    have hn' : numOf (osem k) = numOf (.dma ((cfg0.win w).sem s)) := hn
    omega

abbrev kcell (x : Dev nD × Cells) : GSem nD τ sig := ((x.1 : Thread nD τ), semOf x.2)
theorem kcell_inj : Function.Injective kcell := by
  rintro ⟨c, k⟩ ⟨c', k'⟩ h
  have h1 : c = c' := congrArg (fun g : GSem nD τ sig => g.1.1) h
  subst h1
  exact congrArg (Prod.mk c) (semOf_inj (congrArg Prod.snd h))
def rotCells : Finset (GSem nD τ sig) := Finset.univ.map ⟨kcell, kcell_inj⟩

def tokOf (x : Dev nD × Toks) : GSem nD τ sig × ℕ × Fin 32 :=
  match x.2 with
  | .inl k => (((x.1 : Thread nD τ), twoSem k), 0, 0)
  | .inr d => (barCell x.1, 0, d)
theorem tokOf_inj : Function.Injective tokOf := by
  rintro ⟨c, k⟩ ⟨c', k'⟩ h
  have h1 : c = c' := by
    have := congrArg (fun x : GSem nD τ sig × ℕ × Fin 32 => x.1.1.1) h
    rcases k with k | d <;> rcases k' with k' | d' <;> exact this
  subst h1
  have h2 := congrArg (fun x : GSem nD τ sig × ℕ × Fin 32 => x.1.2) h
  have h3 := congrArg (fun x : GSem nD τ sig × ℕ × Fin 32 => x.2.2) h
  rcases k with k | d <;> rcases k' with k' | d'
  · exact congrArg (fun k => (c, (Sum.inl k : Toks))) (two_inj h2)
  · have hn : numOf (twoSem k) = 0 := congrArg numOf h2
    have := num_two k; omega
  · have hn : 0 = numOf (twoSem k') := congrArg numOf h2
    have := num_two k'; omega
  · exact congrArg (fun d => (c, (Sum.inr d : Toks))) h3
def rotToks : Finset (GSem nD τ sig × ℕ × Fin 32) := Finset.univ.map ⟨tokOf, tokOf_inj⟩

/-- The launch element: the pipeline library's, the protocol's, the counters' unit. -/
def u₀ : UU := (initOf (Pipeline.cells cfgs cellOf_inj) (Pipeline.launchToks cfgs cellOf_inj), (initOf rotCells rotToks, 1))

variable (m : (ℓ : Loc nD τ sig) → Buf (Elt F) ℓ)

/-! ## Sums of families -/

omit [FloatOps F] in
theorem each_sum {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ
omit [FloatOps F] in
theorem each_unit (Φ : Unit → sProp 𝕄) : bigSep Finset.univ Φ = Φ () := bigSep_singleton
omit [FloatOps F] in
theorem each_swap {A B : Type} [Fintype A] [Fintype B] (Φ : A → B → sProp 𝕄) :
    (bigSep Finset.univ fun a => bigSep Finset.univ fun b => Φ a b) = bigSep Finset.univ fun b => bigSep Finset.univ fun a => Φ a b :=
  bigSep_univ_comm Φ

/-- Every device's tokens of duties. -/
def toks (c : Dev nD) : sProp 𝕄 := bigSep Finset.univ fun k : Toks => dutyTok ER (tokOf (c, k)).1 (tokOf (c, k)).2.1 (tokOf (c, k)).2.2

/-- What the launch element deals device `c`. -/
def G (c : Dev nD) : sProp 𝕄 :=
  iprop((bigSep Finset.univ fun k : Cells => roundState ER (Rd m) (kcell (c, k)) 0)
    ∗ ((bigSep Finset.univ fun k : Cells => atPos ER (kcell (c, k)) 0 ∅ 0) ∗ (bigSep Finset.univ fun k : Cells => reached ER (kcell (c, k)) 0))
    ∗ toks (F := F) c)

theorem fund_rot : BI.own (ER (initOf rotCells rotToks)) ⊢ (|==> bigSep Finset.univ (G m) : sProp 𝕄) := by
  have hX (Φ : GSem nD τ sig → sProp 𝕄) : bigSep rotCells Φ = bigSep Finset.univ fun c : Dev nD => bigSep Finset.univ fun k : Cells => Φ (kcell (c, k)) := by
    unfold rotCells; rw [bigSep_map, bigSep_univ_prod]; rfl
  have hT : bigSep rotToks (fun x => (dutyTok ER x.1 x.2.1 x.2.2 : sProp 𝕄)) = bigSep Finset.univ fun c : Dev nD => toks (F := F) c := by
    unfold rotToks; rw [bigSep_map, bigSep_univ_prod]; rfl
  iintro HX
  imod (Rounds.fund ER (Rd m) rotCells rotToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores a device holds -/

omit [FloatOps F] in
/-- The kernel's own semaphores: the sends', the receives', the weight copies'; -/
theorem ownSems0_eq (c : Dev nD) : (Pipeline.ownSems0 (Ix := Unit) (Name := ℕ) (U := UU) (Lvl := ℕ) (Val := Elt F) (τ := τ) osem c : sProp 𝕄)
    = iprop(((bigSep Finset.univ fun s : Fin 32 => semVal (sCell c s) 0) ∗ (bigSep Finset.univ fun s : Fin 32 => semVal (rCell c s) 0))
      ∗ bigSep Finset.univ fun p : Fin 2 × Fin 4 => semVal (wCell c p.1 p.2) 0) := by
  unfold Pipeline.ownSems0
  rw [each_sum, each_sum]; rfl
omit [FloatOps F] in
/-- the barrier is the one unscoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem cells_eq (Φ : Cells → sProp 𝕄) : bigSep Finset.univ Φ
    = iprop(((bigSep Finset.univ fun s : Fin 32 => Φ (.inl (.inl s))) ∗ (bigSep Finset.univ fun s : Fin 32 => Φ (.inl (.inr s)))) ∗ Φ (.inr ())) := by
  rw [each_sum, each_sum, each_unit]

def wSems (c : Dev nD) : sProp 𝕄 := bigSep Finset.univ fun p : Fin 2 × Fin 4 => semVal (wCell c p.1 p.2) 0
def kept (c : Dev nD) : sProp 𝕄 :=
  iprop((bigSep Finset.univ fun k : Cells => known m (kcell (c, k))) ∗ (bigSep Finset.univ fun k : Cells => atPos ER (kcell (c, k)) 0 ∅ 0)
    ∗ wSems (F := F) c ∗ toks (F := F) c)

/-- A device's cells opened: their counters at zero become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> kept m c := by
  rw [ownSems0_eq, unscopedSems0_eq]
  unfold G kept wSems
  iintro ⟨⟨Hsr, Hw⟩, HB, Hst, ⟨Hat, Hre⟩, Htok⟩
  ihave Hv := (Entails.of_eq (cells_eq (F := F) fun k => semVal (kcell (c, k)) 0).symm) $$ [Hsr HB]
  · isplitl [Hsr]; · iexact Hsr
    iexact HB
  imod (show iprop((bigSep Finset.univ fun k : Cells => semVal (kcell (c, k)) 0) ∗ bigSep Finset.univ fun k : Cells => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv Hre]
  · unfold known
    rw [each_sep]
    isplitl [Hinv] <;> iassumption
  isplitl [Hat]; · iexact Hat
  isplitl [Hw] <;> iassumption

/-! ## The tokens dealt -/

/-- What device `c` pays with: its unit at every other's barrier; -/
def barToks (c : Dev nD) : sProp 𝕄 := bigSep (upFrom 32 1) fun s : Fin 32 => dutyTok ER (barCell (fwd c s)) 0 c
/-- and its transfers' duties. -/
def sendToks (c : Dev nD) : sProp 𝕄 := bigSep (upFrom 32 1) (tokRes (F := F) c)

theorem drop_l (P Q : sProp 𝕄) : iprop(P ∗ Q) ⊢ Q := by
  iintro ⟨-, H⟩; iexact H

/-- A family over pairs of devices, read by its second: the others'. -/
theorem to_payers (T : Fin 32 → Fin 32 → sProp 𝕄) :
    (bigSep Finset.univ fun c : Fin 32 => bigSep Finset.univ fun d : Fin 32 => T c d)
      ⊢ bigSep Finset.univ fun d : Fin 32 => bigSep (upFrom 32 1) fun s : Fin 32 => T (fwd d s) d := by
  rw [each_swap]
  exact each_mono Finset.univ fun d => by rw [around d]; exact drop_l _ _

theorem toks_eq (c : Dev nD) : toks (F := F) c
    = iprop(((bigSep Finset.univ fun s : Fin 32 => dutyTok ER (sCell c s) 0 0) ∗ (bigSep Finset.univ fun s : Fin 32 => dutyTok ER (rCell c s) 0 0))
      ∗ bigSep Finset.univ fun d : Fin 32 => dutyTok ER (barCell c) 0 d) := by
  unfold toks; rw [each_sum, each_sum]; rfl

theorem toks_dealt : (bigSep Finset.univ fun c : Dev nD => toks (F := F) c)
    ⊢ iprop((bigSep Finset.univ fun c : Dev nD => barToks (F := F) c) ∗ (bigSep Finset.univ fun c : Dev nD => sendToks (F := F) c)) := by
  have e : (bigSep Finset.univ fun c : Dev nD => toks (F := F) c)
      = iprop(((bigSep Finset.univ fun c : Dev nD => bigSep Finset.univ fun s : Fin 32 => dutyTok ER (sCell c s) 0 0)
          ∗ (bigSep Finset.univ fun c : Dev nD => bigSep Finset.univ fun s : Fin 32 => dutyTok ER (rCell c s) 0 0))
        ∗ bigSep Finset.univ fun c : Dev nD => bigSep Finset.univ fun d : Fin 32 => dutyTok ER (barCell c) 0 d) := by
    rw [← each_sep, ← each_sep]; exact bigSep_congr fun c _ => toks_eq c
  have e' : (bigSep Finset.univ fun c : Dev nD => sendToks (F := F) c)
      = iprop((bigSep Finset.univ fun c : Dev nD => bigSep (upFrom 32 1) fun s : Fin 32 => dutyTok ER (rCell (fwd c s) c) 0 0)
        ∗ (bigSep Finset.univ fun c : Dev nD => bigSep (upFrom 32 1) fun s : Fin 32 => dutyTok ER (sCell c s) 0 0)) := by
    rw [← each_sep]; exact bigSep_congr fun c _ => by unfold sendToks tokRes; rw [each_sep]
  rw [e, e']
  iintro ⟨⟨Hs, Hr⟩, Hb⟩
  isplitl [Hb]
  · iapply (to_payers (F := F) fun c d => dutyTok ER (barCell c) 0 d); iexact Hb
  isplitl [Hr]
  · iapply (to_payers (F := F) fun c d => dutyTok ER (rCell c d) 0 0); iexact Hr
  iapply (each_mono Finset.univ (Φ := fun c : Dev nD => bigSep Finset.univ fun s : Fin 32 => dutyTok ER (sCell c s) 0 0)
    (Ψ := fun c : Dev nD => bigSep (upFrom 32 1) fun s : Fin 32 => dutyTok ER (sCell c s) 0 0)
    fun c => by rw [at_zero]; exact drop_l _ _)
  iexact Hs

/-! ## What a device starts from -/

/-- Every cell's invariant. -/
def facts : sProp 𝕄 :=
  iprop((bigSep Finset.univ fun c : Dev nD => bigSep Finset.univ fun s : Fin 32 => known m (sCell c s))
    ∗ (bigSep Finset.univ fun c : Dev nD => bigSep Finset.univ fun s : Fin 32 => known m (rCell c s))
    ∗ (bigSep Finset.univ fun c : Dev nD => known m (barCell c)))
instance facts_persistent : BI.Persistent (facts m) := by unfold facts; infer_instance

theorem ctx_intro : iprop(facts m ∗ levs (F := F)) ⊢ ctx m := by
  unfold facts ctx
  iintro ⟨⟨H1, H2, H3⟩, H4⟩
  isplitl [H1]; · iexact H1
  isplitl [H2]; · iexact H2
  isplitl [H3] <;> iassumption

def poss (c : Dev nD) : sProp 𝕄 :=
  iprop(((bigSep Finset.univ fun s : Fin 32 => atPos ER (sCell c s) 0 ∅ 0) ∗ (bigSep Finset.univ fun s : Fin 32 => atPos ER (rCell c s) 0 ∅ 0))
    ∗ atPos ER (barCell c) 0 ∅ 0)
def G' (c : Dev nD) : sProp 𝕄 :=
  iprop(facts m ∗ poss (F := F) c ∗ wSems (F := F) c ∗ barToks (F := F) c ∗ sendToks (F := F) c)

theorem facts_intro : (bigSep Finset.univ fun c : Dev nD => bigSep Finset.univ fun k : Cells => known m (kcell (c, k))) ⊢ facts m := by
  have e : (bigSep Finset.univ fun c : Dev nD => bigSep Finset.univ fun k : Cells => known m (kcell (c, k)))
      = iprop(((bigSep Finset.univ fun c : Dev nD => bigSep Finset.univ fun s : Fin 32 => known m (sCell c s))
          ∗ (bigSep Finset.univ fun c : Dev nD => bigSep Finset.univ fun s : Fin 32 => known m (rCell c s)))
        ∗ bigSep Finset.univ fun c : Dev nD => known m (barCell c)) := by
    rw [← each_sep, ← each_sep]; exact bigSep_congr fun c _ => cells_eq _
  rw [e]; unfold facts
  iintro ⟨⟨H1, H2⟩, H3⟩
  isplitl [H1]; · iexact H1
  isplitl [H2] <;> iassumption

theorem regroup : (bigSep Finset.univ fun c : Dev nD => kept m c) ⊢ bigSep Finset.univ (G' m) := by
  have e : (bigSep Finset.univ fun c : Dev nD => kept m c)
      = iprop((bigSep Finset.univ fun c : Dev nD => bigSep Finset.univ fun k : Cells => known m (kcell (c, k)))
        ∗ (bigSep Finset.univ fun c : Dev nD => bigSep Finset.univ fun k : Cells => atPos ER (kcell (c, k)) 0 ∅ 0)
        ∗ (bigSep Finset.univ fun c : Dev nD => wSems (F := F) c) ∗ (bigSep Finset.univ fun c : Dev nD => toks (F := F) c)) := by
    rw [← each_sep, ← each_sep, ← each_sep]; rfl
  have e' : (bigSep Finset.univ fun c : Dev nD => iprop(poss (F := F) c ∗ wSems (F := F) c ∗ barToks (F := F) c ∗ sendToks (F := F) c))
      = iprop((bigSep Finset.univ fun c : Dev nD => poss (F := F) c) ∗ (bigSep Finset.univ fun c : Dev nD => wSems (F := F) c)
        ∗ (bigSep Finset.univ fun c : Dev nD => barToks (F := F) c) ∗ (bigSep Finset.univ fun c : Dev nD => sendToks (F := F) c)) := by
    rw [each_sep, each_sep, each_sep]
  have ep : (bigSep Finset.univ fun c : Dev nD => bigSep Finset.univ fun k : Cells => atPos ER (kcell (c, k)) 0 ∅ 0)
      = (bigSep Finset.univ fun c : Dev nD => poss (F := F) c) := bigSep_congr fun c _ => cells_eq _
  rw [e, ep]
  iintro ⟨HK, Hat, Hw, Htok⟩
  ihave #HF := (facts_intro m) $$ HK
  ihave Ht := (toks_dealt (F := F)) $$ Htok
  icases Ht with ⟨Hb, Hs⟩
  iapply (bigSep_with_persistent (R := facts m) (Φ := fun c : Dev nD => iprop(poss (F := F) c ∗ wSems (F := F) c ∗ barToks (F := F) c ∗ sendToks (F := F) c))
    (Ψ := G' m) fun c _ => Entails.of_eq rfl)
  isplitr; · iexact HF
  rw [e']
  isplitl [Hat]; · iexact Hat
  isplitl [Hw]; · iexact Hw
  isplitl [Hb] <;> iassumption

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : barCell a = barCell b ↔ a = b :=
  ⟨fun h => congrArg (fun g : GSem nD τ sig => g.1.1) h, fun h => h ▸ rfl⟩
theorem recv_eq_iff {a b : Dev nD} {s t : Fin 32} : rCell a s = rCell b t ↔ a = b ∧ s = t :=
  ⟨fun h => ⟨congrArg (fun g : GSem nD τ sig => g.1.1) h, by
      have h2 : twoSem (.inr s) = twoSem (.inr t) := congrArg Prod.snd h
      exact Sum.inr_injective (two_inj h2)⟩, fun h => by rw [h.1, h.2]⟩
theorem bar_ne_recv (a b : Dev nD) (s : Fin 32) : barCell a ≠ rCell b s := fun h => by
  have h2 : (SemLoc.reg barS : SemLoc sig) = .dma (rSem s).sem := congrArg Prod.snd h
  cases h2

theorem fwd_eq_iff (d c : Dev nD) (s : Fin 32) : c = fwd d s ↔ s = gap c d :=
  ⟨fun h => by rw [h]; exact ((turn d).left_inv s).symm, fun h => by rw [h]; exact ((turn d).right_inv c).symm⟩
theorem fwd_eq_iff' (d c : Dev nD) (s : Fin 32) : c = fwd d s ↔ d = gap c s := by
  have hc : c.val < 32 := c.isLt
  have hd : d.val < 32 := d.isLt
  constructor
  · intro h
    have hv : c.val = (d.val + s.val) % 32 := congrArg Fin.val h
    exact Fin.ext (by show d.val = (c.val + 32 - s.val) % 32; omega)
  · intro h
    have hv : d.val = (c.val + 32 - s.val) % 32 := congrArg Fin.val h
    exact Fin.ext (by show c.val = (d.val + s.val) % 32; omega)

/-- What `d` owes the barrier of `c`; -/
theorem owed_bar (d c : Dev nD) : O₀ d (barCell c) () = ∑ s ∈ upFrom 32 1, if d = gap c s then 1 else 0 := by
  unfold O₀ owedRecv owedBar
  rw [Pi.add_apply, Finsupp.add_apply, Finset.sum_apply, Finset.sum_apply, Finsupp.finset_sum_apply, Finsupp.finset_sum_apply,
    Finset.sum_eq_zero fun s _ => by rw [tallyAt_apply, if_neg fun h => bar_ne_recv _ _ _ h.1], Nat.zero_add]
  refine Finset.sum_congr rfl fun s _ => ?_
  rw [tallyAt_apply]
  exact if_congr (by rw [bar_eq_iff, fwd_eq_iff']; exact and_iff_left rfl) rfl rfl
/-- and its receive cell of sender `src`. -/
theorem owed_recv (d c : Dev nD) (src : Fin 32) : O₀ d (rCell c src) () = ∑ s ∈ upFrom 32 1, if d = src ∧ s = gap c src then N else 0 := by
  unfold O₀ owedRecv owedBar
  rw [Pi.add_apply, Finsupp.add_apply, Finset.sum_apply, Finset.sum_apply, Finsupp.finset_sum_apply, Finsupp.finset_sum_apply,
    Finset.sum_eq_zero (f := fun s => (tallyAt (barCell (fwd d s)) () 1 : CellTallies nD τ sig Unit) (rCell c src) ())
      fun s _ => by rw [tallyAt_apply, if_neg fun h => bar_ne_recv _ _ _ h.1.symm], Nat.add_zero]
  refine Finset.sum_congr rfl fun s _ => ?_
  rw [tallyAt_apply]
  refine if_congr ?_ rfl rfl
  rw [recv_eq_iff]
  constructor
  · rintro ⟨⟨h1, h2⟩, -⟩
    subst h2
    exact ⟨rfl, (fwd_eq_iff _ _ _).mp h1⟩
  · rintro ⟨rfl, h2⟩
    exact ⟨⟨(fwd_eq_iff _ _ _).mpr h2, rfl⟩, rfl⟩

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun s _ => (Finset.sum_ite_eq' Finset.univ (gap c s) fun _ => 1).trans (if_pos (Finset.mem_univ _))]
  decide
theorem launch_recv (c : Dev nD) (s : Fin 32) (h : 1 ≤ s.val) :
    tallyOn (rCell c (fwd c s)) (launchCredit (Pipeline.owing O₀) 0 (rCell c (fwd c s))) = (tallyAt (rCell c (fwd c s)) () N : CellTallies nD τ sig Unit) := by
  have hc : c.val < 32 := c.isLt
  have hg : gap c (fwd c s) ∈ upFrom 32 1 := by
    simp only [upFrom, Finset.mem_filter, Finset.mem_univ, true_and]
    show 1 ≤ (c.val + 32 - (c.val + s.val) % 32) % 32
    omega
  unfold tallyAt; refine congrArg _ (Finsupp.ext fun u => ?_); cases u
  rw [Pipeline.launchCredit_owing, Finsupp.single_eq_same, Finset.sum_congr rfl fun d _ => owed_recv d c _,
    Finset.sum_eq_single (fwd c s) (fun d _ hd => Finset.sum_eq_zero fun t _ => if_neg fun h => hd h.1) (fun h => absurd (Finset.mem_univ _) h),
    Finset.sum_eq_single (gap c (fwd c s)) (fun t _ ht => if_neg fun h => ht h.2) (fun h => absurd hg h), if_pos ⟨rfl, rfl⟩]

def recvLoc (c : Dev nD) : Fin 32 ↪ SemLoc sig :=
  ⟨fun s => twoSem (.inr (fwd c s)), fun s t h => (turn c).injective (Sum.inr_injective (two_inj h))⟩

/-- The credit a device starts with: its barrier's thirty-one units and a block at each receive cell. -/
theorem creds (c : Dev nD) : (Pipeline.launchCred O₀ c : sProp 𝕄)
    ⊢ iprop(cred (tallyAt (barCell c) () 31) ∗ bigSep (upFrom 32 1) fun s : Fin 32 => cred (tallyAt (rCell c (fwd c s)) () N)) := by
  unfold Pipeline.launchCred
  rw [bigSep_univ_at _ (SemLoc.reg barS), launch_bar]
  have hsub : (upFrom 32 1).map (recvLoc c) ⊆ Finset.univ.erase (SemLoc.reg barS : SemLoc sig) := fun q hq => by
    obtain ⟨s, -, rfl⟩ := Finset.mem_map.mp hq
    exact Finset.mem_erase.mpr ⟨(fun h => by cases h), Finset.mem_univ _⟩
  refine sep_mono_right ((bigSep_subset hsub).trans ?_)
  rw [bigSep_map]
  refine bigSep_mono fun s hs => Entails.of_eq (congrArg cred (launch_recv c s ?_))
  exact (Finset.mem_filter.mp hs).2

end Cert.KernelIdeal.Rot

end
-- ==== Proof.Ideal.Printed.lean ====
/-
The printed body is the program with loops of Program.lean, by definitional unfolding.
-/
module

public import proofs.«01_k».proof.Proof.Ideal.Program

@[expose] public section

noncomputable section

namespace Cert.KernelIdeal.Rot

open Cert.KernelIdeal Cert.KernelIdeal.Gen
open Idealize.ShloMosaic Idealize.SL.Sem

variable {F : FTy → Type} [FloatOps F]

set_option maxRecDepth 65536 in
set_option maxHeartbeats 4000000 in
/-- The printed body, on the call's arrays, is the program above. -/
theorem body_eq (t : Fin cfg0.N) : bodyAt0 (F := F) t = prog := rfl

end Cert.KernelIdeal.Rot

end
-- ==== Proof.Ideal.Launch.lean ====
/-
The whole run: the body's obligation to the pipeline, the launch of the thirty-two devices, and every final state.
-/
module

public import proofs.«01_k».proof.Proof.Ideal.Ghost
public import proofs.«01_k».proof.Proof.Ideal.Printed
public import Idealize.ShloMosaic.Lib.Pipeline.CollectiveSegs
public import Idealize.ShloMosaic.Lib.Quiescent
public import Idealize.ShloMosaic.Adequacy

@[expose] public section

noncomputable section

namespace Cert.KernelIdeal.Rot

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)

variable {F : FTy → Type} [FloatOps F]

local notation "𝕄" => MT nD τ sig Unit (Elt F) ℕ UU ℕ

/-! ## Buffers, whole and in pieces -/

omit [FloatOps F] in
/-- A buffer at some contents is its pieces, each at some contents. -/
theorem whole_pieces {T : Type} [Fintype T] [DecidableEq T] (ℓ : Loc nD τ sig) (K : T → Finset (Idx ℓ))
    (hd : ∀ t t', t ≠ t' → Disjoint (K t) (K t')) (hc : Finset.univ.biUnion K = Finset.univ) :
    (iprop(∃ f : Buf (Elt F) ℓ, ℓ ↦{fullShare} f) : sProp 𝕄) ⊢ bigSep Finset.univ fun t => iprop(∃ f : Buf (Elt F) ℓ, ℓ ↦[K t]{fullShare} f) := by
  iintro ⟨%f, H⟩
  have e : (ℓ ↦{fullShare} f : sProp 𝕄) = bigSep Finset.univ fun t => ℓ ↦[K t]{fullShare} f := by
    rw [← hc]; exact pointsTo_biUnion _ _ (fun t _ t' _ hne => hd t t' hne)
  ihave H := (Entails.of_eq e) $$ H
  iapply (each_mono Finset.univ (Φ := fun t => (ℓ ↦[K t]{fullShare} f : sProp 𝕄)) (Ψ := fun t => iprop(∃ f : Buf (Elt F) ℓ, ℓ ↦[K t]{fullShare} f))
    fun t => exists_intro (Φ := fun f => (ℓ ↦[K t]{fullShare} f : sProp 𝕄)) f) $$ H
theorem pieces_whole {T : Type} [Fintype T] [DecidableEq T] (ℓ : Loc nD τ sig) (K : T → Finset (Idx ℓ))
    (hd : ∀ t t', t ≠ t' → Disjoint (K t) (K t')) (hc : Finset.univ.biUnion K = Finset.univ) :
    (bigSep Finset.univ fun t => iprop(∃ f : Buf (Elt F) ℓ, ℓ ↦[K t]{fullShare} f)) ⊢ (iprop(∃ f : Buf (Elt F) ℓ, ℓ ↦{fullShare} f) : sProp 𝕄) := by
  haveI : ∀ _ : T, Nonempty (Buf (Elt F) ℓ) := fun _ => ⟨fun _ => Classical.choice inferInstance⟩
  iintro H
  ihave H := (bigSep_exists_pi (Finset.univ : Finset T) (fun t (f : Buf (Elt F) ℓ) => (ℓ ↦[K t]{fullShare} f : sProp 𝕄))) $$ H
  icases H with ⟨%fs, H⟩
  ihave H := (pointsTo_biUnion_join (ℓ := ℓ) (q := fullShare) (Finset.univ : Finset T) K fs (fun _ => Classical.choice inferInstance) (fun t _ t' _ hne => hd t t' hne)) $$ H
  icases H with ⟨%g, -, H⟩
  iexists g
  rw [hc]
  iexact H

variable (c : Dev nD) (m : (ℓ : Loc nD τ sig) → Buf (Elt F) ℓ)

def wbAny : sProp 𝕄 := bigSep Finset.univ fun p : Fin 2 × Fin 4 => iprop(∃ f, wbPts (F := F) c p.1 p.2 f)
def yAny : sProp 𝕄 := bigSep Finset.univ fun s : Fin 32 => iprop(∃ f, yPts (F := F) c s f)

theorem wb_split : (iprop(∃ f : Buf (Elt F) ((c : Thread nD τ).loc cc0_scratch0), ((c : Thread nD τ).loc cc0_scratch0) ↦{fullShare} f) : sProp 𝕄) ⊢ wbAny c :=
  whole_pieces ((c : Thread nD τ).loc cc0_scratch0) (fun p : Fin 2 × Fin 4 => (wbR p.1 p.2).set) (fun p p' h => wbs_disjoint' p p' h) wbs_cover
theorem wb_join : wbAny c ⊢ (iprop(∃ f : Buf (Elt F) ((c : Thread nD τ).loc cc0_scratch0), ((c : Thread nD τ).loc cc0_scratch0) ↦{fullShare} f) : sProp 𝕄) :=
  pieces_whole ((c : Thread nD τ).loc cc0_scratch0) (fun p : Fin 2 × Fin 4 => (wbR p.1 p.2).set) (fun p p' h => wbs_disjoint' p p' h) wbs_cover
theorem y_split : (iprop(∃ f : Buf (Elt F) ((c : Thread nD τ).loc cc0_scratch1), ((c : Thread nD τ).loc cc0_scratch1) ↦{fullShare} f) : sProp 𝕄) ⊢ yAny c :=
  whole_pieces ((c : Thread nD τ).loc cc0_scratch1) (fun s : Fin 32 => (slotR s).set) slots_disjoint slots_cover
theorem y_join : yAny c ⊢ (iprop(∃ f : Buf (Elt F) ((c : Thread nD τ).loc cc0_scratch1), ((c : Thread nD τ).loc cc0_scratch1) ↦{fullShare} f) : sProp 𝕄) :=
  pieces_whole ((c : Thread nD τ).loc cc0_scratch1) (fun s : Fin 32 => (slotR s).set) slots_disjoint slots_cover
/-- The receive buffer: its own slot and the slots the others are handed. -/
theorem r_split : (iprop(∃ f : Buf (Elt F) ((c : Thread nD τ).loc cc0_scratch2), ((c : Thread nD τ).loc cc0_scratch2) ↦{fullShare} f) : sProp 𝕄)
    ⊢ iprop((∃ f, rPts (F := F) c c f) ∗ bigSep (upFrom 32 1) fun s : Fin 32 => iprop(∃ f, rPts (F := F) c (fwd c s) f)) :=
  (whole_pieces ((c : Thread nD τ).loc cc0_scratch2) (fun s : Fin 32 => (slotR s).set) slots_disjoint slots_cover).trans
    (Entails.of_eq (around c fun s : Fin 32 => iprop(∃ f, rPts (F := F) c s f)))

/-- The weight, whole. -/
def wPts : sProp 𝕄 := ((c : Thread nD τ).loc main_arg1) ↦{fullShare} wmem m c
theorem w_eq : wPts c m = bigSep Finset.univ (grp m c) := by
  have e : wPts c m = bigSep Finset.univ fun b : Fin 32 => colPts m c b := by
    unfold wPts colPts
    rw [← cols_cover]
    exact pointsTo_biUnion _ _ (fun b _ b' _ hne => cols_disjoint b b' hne)
  rw [e, bigSep_univ_equiv (turn c), each_far]
  refine bigSep_congr fun t _ => bigSep_congr fun j _ => congrArg (colPts m c) (Fin.ext ?_)
  show (c.val + (4 * t.val + j.val)) % 32 = (c.val + 4 * t.val + j.val) % 32
  rw [Nat.add_assoc]

/-- The weight buffer's two slots and their semaphores. -/
theorem idle_eq : iprop(idle (F := F) c 0 ∗ idle (F := F) c 1) = iprop(wbAny (F := F) c ∗ wSems (F := F) c) := by
  unfold wbAny wSems
  rw [← each_sep, bigSep_univ_prod (fun p : Fin 2 × Fin 4 => iprop((∃ f, wbPts (F := F) c p.1 p.2 f) ∗ semVal (wCell c p.1 p.2) 0)),
    bigSep_univ_eq_bigSepL [(0 : Fin 2), 1] (by decide) (by decide)]
  rfl

/-! ## What the pipeline's invariant holds before the body and after it -/

def start : sProp 𝕄 :=
  iprop((facts m ∗ levs (F := F)) ∗ poss (F := F) c ∗ wSems (F := F) c ∗ barToks (F := F) c ∗ sendToks (F := F) c
    ∗ (cred (tallyAt (barCell c) () 31) ∗ bigSep (upFrom 32 1) fun s : Fin 32 => cred (tallyAt (rCell c (fwd c s)) () N)) ∗ wPts c m)
def Φ₀ : sProp 𝕄 := iprop(start c m ∗ Pipeline.scopedRest (Val := Elt F) (Ix := Unit) (Name := ℕ) (U := UU) (Lvl := ℕ) cfg0.spec c)

/-- Positions and credits, by distance. -/
theorem pos_intro :
    iprop(poss (F := F) c ∗ bigSep (upFrom 32 1) fun s : Fin 32 => cred (tallyAt (rCell c (fwd c s)) () N))
      ⊢ iprop(atPos ER (barCell c) 0 ∅ 0 ∗ bigSep (upFrom 32 1) (posRes (F := F) c) ∗ (atPos ER (sCell c 0) 0 ∅ 0 ∗ atPos ER (rCell c c) 0 ∅ 0)) := by
  have e : bigSep (upFrom 32 1) (posRes (F := F) c)
      = iprop((bigSep (upFrom 32 1) fun s : Fin 32 => atPos ER (sCell c s) 0 ∅ 0) ∗ (bigSep (upFrom 32 1) fun s : Fin 32 => cred (tallyAt (rCell c (fwd c s)) () N))
        ∗ bigSep (upFrom 32 1) fun s : Fin 32 => atPos ER (rCell c (fwd c s)) 0 ∅ 0) := by
    unfold posRes; rw [each_sep, each_sep]
  unfold poss
  rw [e, at_zero (fun s => atPos ER (sCell c s) 0 ∅ 0), around c (fun s => atPos ER (rCell c s) 0 ∅ 0)]
  iintro ⟨⟨⟨⟨Hs0, Hs⟩, ⟨Hr0, Hr⟩⟩, Hb⟩, Hc⟩
  isplitl [Hb]; · iexact Hb
  isplitl [Hs Hr Hc]
  · isplitl [Hs]; · iexact Hs
    isplitl [Hc] <;> iassumption
  isplitl [Hs0] <;> iassumption

/-- All the body takes. -/
theorem before_intro : Φ₀ c m ⊢ iprop(ctx m ∗ before m c) := by
  unfold Φ₀ start before
  rw [scopedRest0_eq, w_eq]
  iintro ⟨⟨HF, Hpos, Hw, Hb, Hs, ⟨Hcb, Hcr⟩, HW⟩, Hwb, Hy, Hr⟩
  ihave Hctx := (ctx_intro m) $$ HF
  ihave Hp := (pos_intro (F := F) c) $$ [Hpos Hcr]
  · isplitl [Hpos] <;> iassumption
  icases Hp with ⟨Hp1, Hp2, Hp3⟩
  ihave Hwb := (wb_split (F := F) c) $$ Hwb
  ihave Hi := (Entails.of_eq (idle_eq (F := F) c).symm) $$ [Hwb Hw]
  · isplitl [Hwb] <;> iassumption
  icases Hi with ⟨Hi0, Hi1⟩
  ihave Hy := (y_split (F := F) c) $$ Hy
  ihave Hr := (r_split (F := F) c) $$ Hr
  icases Hr with ⟨Hr0, Hr⟩
  isplitl [Hctx]; · iexact Hctx
  isplitl [Hb Hr]
  · have e : bigSep (upFrom 32 1) (barRes (F := F) c)
        = iprop(barToks (F := F) c ∗ bigSep (upFrom 32 1) fun s : Fin 32 => iprop(∃ f, rPts (F := F) c (fwd c s) f)) := by
      unfold barToks; rw [← each_sep]; rfl
    iapply (Entails.of_eq e.symm)
    isplitl [Hb] <;> iassumption
  isplitl [Hcb Hp1]
  · isplitl [Hcb] <;> iassumption
  isplitl [Hs]; · unfold sendToks; iexact Hs
  isplitl [Hp2]; · iexact Hp2
  isplitl [Hp3]; · iexact Hp3
  isplitl [Hy]; · unfold yAny; iexact Hy
  isplitl [Hr0]; · iexact Hr0
  isplitl [Hi0]; · iexact Hi0
  isplitl [Hi1] <;> iassumption

/-- What is passed on at the end: the barrier's counter at zero and the weight as it was. -/
def Y : sProp 𝕄 := iprop(unscopedSems0 c ∗ wPts c m)

theorem after_exit : after m c ⊢ iprop(Y c m
    ∗ Pipeline.ownSems0 (Ix := Unit) (Name := ℕ) (U := UU) (Lvl := ℕ) (Val := Elt F) (τ := τ) osem c
    ∗ Pipeline.scopedRest (Val := Elt F) (Ix := Unit) (Name := ℕ) (U := UU) (Lvl := ℕ) cfg0.spec c) := by
  unfold after Y
  rw [scopedRest0_eq, w_eq, ownSems0_eq, unscopedSems0_eq]
  iintro ⟨HB, Hs, Hr, Hy, HR, Hi0, Hi1, HW⟩
  ihave Hi := (Entails.of_eq (idle_eq (F := F) c)) $$ [Hi0 Hi1]
  · isplitl [Hi0] <;> iassumption
  icases Hi with ⟨Hwb, Hw⟩
  isplitl [HB HW]
  · isplitl [HB] <;> iassumption
  isplitl [Hs Hr Hw]
  · isplitl [Hs Hr]
    · isplitl [Hs] <;> iassumption
    unfold wSems
    iexact Hw
  isplitl [Hwb]; · iapply (wb_join (F := F) c); iexact Hwb
  isplitl [Hy]; · iapply (y_join (F := F) c); unfold yAny; iexact Hy
  iexists (rF m c)
  unfold rWhole
  iexact HR

/-! ## The pipeline's data and the body's obligation -/

variable (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ c m
    | ⟨_ + 1, _⟩ => after m c
  q _ := fullShare
  owed t := match t with
    | ⟨0, _⟩ => O₀ c
    | ⟨_ + 1, _⟩ => 0

/-- A staging buffer held at contents `X`. -/
def stg (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_stg (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem x_before (d) : (dats m ρ 0 c).before (0 : Fin 2) t0_0 d = xstg m c := by
  unfold Dat.before
  rw [if_pos (fetch0_0 t0_0)]; rfl

def bodyPre : sProp 𝕄 :=
  iprop(Φ₀ c m ∗ (dats m ρ 0 c).owesAt () (t0_0 : Fin cfg0.N).castSucc
    ∗ (∃ d, stg c cc0_stg0_0 ((dats m ρ 0 c).before (0 : Fin 2) t0_0 d))
    ∗ (∃ d, stg c cc0_stg1_0 ((dats m ρ 0 c).before (1 : Fin 2) t0_0 d)))
def bodyPost : sProp 𝕄 :=
  iprop(after m c ∗ (dats m ρ 0 c).owesAt () (t0_0 : Fin cfg0.N).succ ∗ stg c cc0_stg0_0 (xstg m c) ∗ stg c cc0_stg1_0 (outAt m c))

theorem pre_intro : bodyPre c m ρ ⊢ iprop(ctx m ∗ ow c (O₀ c) ∗ xPts m c ∗ (∃ f, oPts c f) ∗ before m c) := by
  unfold bodyPre stg Dat.owesAt Pipeline.owesWithin ow xPts oPts
  iintro ⟨HΦ, ⟨%W, -, HO⟩, ⟨%d, %f, %hf, Hx⟩, ⟨%d', %f', %hf', Ho⟩⟩
  rw [x_before] at hf
  subst hf
  ihave HΦ := (before_intro c m) $$ HΦ
  icases HΦ with ⟨Hc, Hb⟩
  isplitl [Hc]; · iexact Hc
  isplitl [HO]
  · iexists W; iexact HO
  isplitl [Hx]; · iexact Hx
  isplitl [Ho]
  · iexists f'; iexact Ho
  iexact Hb

theorem post_elim : iprop(ow c 0 ∗ xPts m c ∗ oPts c (outAt m c) ∗ after m c) ⊢ bodyPost c m ρ := by
  unfold bodyPost stg Dat.owesAt Pipeline.owesWithin ow xPts oPts
  iintro ⟨⟨%W, HO⟩, Hx, Ho, Ha⟩
  isplitl [Ha]; · iexact Ha
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem body_runs : bodyPre c m ρ ⊢ Runs c prog (fun _ => bodyPost c m ρ) :=
  (pre_intro c m ρ).trans ((run_prog m c).trans (wp_mono _ _ _ fun _ => post_elim c m ρ))

/-- The body the pipeline calls is the program. -/
theorem body_called : (defs₀ (F := F) .tc cfg0.body (cfg0.bodyArgs t0_0 (cfg0.slots t0_0))) = prog (F := F) :=
  (show (defs₀ (F := F) .tc cfg0.body (cfg0.bodyArgs t0_0 (cfg0.slots t0_0))) = bodyAt0 (F := F) t0_0 from rfl).trans (body_eq t0_0)

/-- The body's obligation. -/
theorem body_obligation : BodyObligation (dats (F := F) m ρ 0 c) (defs₀ (F := F)) 𝒱₀ () Set.univ := fun t => by
  rw [fin_N0 t, body_called, bigSep_W0, bigSep_W0]
  simp only [owns_stg]
  refine (show _ ⊢ bodyPre c m ρ from Entails.of_eq rfl).trans ((body_runs c m ρ).trans (Entails.of_eq ?_))
  unfold Runs
  congr 1

/-! ## The launch theorem's conditions -/

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start c m ∗ emp) := by
  have e : (Pipeline.unscopedRestP (Val := Elt F) (Ix := Unit) (Name := ℕ) (U := UU) (Lvl := ℕ) Pipeline.Prefetch.none cfg0.spec c (fun b => m ((c : Thread nD τ).loc b)))
      ⊢ wPts c m := by
    rw [Pipeline.unscopedRestP_none, unscopedRest0_eq]; exact Entails.of_eq rfl
  unfold G' start levs
  iintro ⟨HW, Hlev, Hcr, -, HF, Hp, Hw, Hb, Hs⟩
  ihave HW := e $$ HW
  ihave Hc := (creds (F := F) c) $$ Hcr
  imodintro
  isplitl
  · isplitl [HF Hlev]
    · isplitl [HF] <;> iassumption
    isplitl [Hp]; · iexact Hp
    isplitl [Hw]; · iexact Hw
    isplitl [Hb]; · iexact Hb
    isplitl [Hs]; · iexact Hs
    isplitl [Hc] <;> iassumption
  · iempintro

theorem phi_intro :
    iprop(start c m ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ c m from rfl]
  unfold Φ₀
  iintro ⟨Hs, -, Hr⟩
  isplitl [Hs] <;> iassumption

theorem phi_exit :
    (dats m ρ 0 c).Φ (Fin.last cfg0.N) ⊢ iprop(Y c m ∗ Pipeline.ownSems0 osem c ∗ Pipeline.scopedRest cfg0.spec c) := by
  rw [show (dats m ρ 0 c).Φ (Fin.last cfg0.N) = after m c from rfl]
  exact after_exit c m

theorem waits : (levAts L lv : sProp 𝕄) ⊢ Pipeline.cellsWaits cfgs (dats m ρ) () 0 c :=
  Pipeline.cellsWaits_intro cfgs (dats m ρ) () 0 c fun w s t => by
    have hq : ((cfg0.win w).sem s).val < 42 := Nat.lt_of_lt_of_le (stage_low w s) (by decide)
    rcases t with ⟨_ | _, ht⟩
    · exact mayWait_low c _ hq 1 1
    · have h := mayWait_low (F := F) c _ hq 32 32
      rw [owedRecv_none, owedBar_none, add_zero] at h
      exact h

/-! ## The run -/

def finalA (w : Fin cfg0.W) : Buf (Elt F) ((cfg0.win w).arr.view.loc (c : Thread nD τ)) := (dats m ρ 0 c).arrAt w cfg0.N

/-- Every final state: the arrays at the pipeline's last contents, the weight as it was. -/
def QC : PUnit × MemSt nD τ sig (Elt F) → Prop := fun r =>
  ∀ c : Dev nD, (∀ w : Fin cfg0.W, r.2.mem ((cfg0.win w).arr.view.loc (c : Thread nD τ)) = finalA c m ρ w)
    ∧ r.2.mem ((c : Thread nD τ).loc main_arg1) = m ((c : Thread nD τ).loc main_arg1)

theorem read_end (s' : Phys nD τ sig (Elt F)) :
    iprop(Y c m ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ (SI s' : sProp 𝕄)) := by
  unfold Y wPts
  iintro ⟨⟨Hu, Hw⟩, -, HSI⟩
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hw i (Finset.mem_univ i)⟩
  iexact HSI

/-- The launch element, split between the pipeline library and the protocol. -/
theorem launch_split : (ownU u₀ : sProp 𝕄)
    ⊢ iprop(BI.own (EP (initOf (Pipeline.cells cfgs cellOf_inj) (Pipeline.launchToks cfgs cellOf_inj))) ∗ BI.own (ER (initOf rotCells rotToks))) := by
  unfold u₀
  have e (x : UB) : (BI.own (((Emb.inl : Emb UB (UB × Counters)).trans embR) x) : sProp 𝕄) = BI.own (ER x) := rfl
  rw [← e]
  iintro Hu
  ihave H := (ownU_pair _ _) $$ Hu
  icases H with ⟨HP, HX⟩
  ihave HX := (own_pair_emb _ _ _) $$ HX
  icases HX with ⟨HX, -⟩
  isplitl [HP] <;> iassumption

set_option maxRecDepth 100000 in
/-- From any memory with zero counters every weakly fair execution of @main terminates, and every final state is as `QC`
    says, with every semaphore counter at zero. -/
theorem machine_run : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation c m ρ) (hne := block_pos0) (harr := arr_whole0) (hstage := stage_whole0) (hshare := fun c w => share_eq c m ρ w)
    (hdistinct := winFacts0.arr_inj)
    (O₀ := O₀) (howed₀ := fun _ => rfl) (howedN := fun _ => rfl)
    (L := L) (lv := lv) (hL := L_of_ne) (hwaits := fun c => waits c m ρ)
    (G := G m) (G' := G' m) (u₀ := u₀)
    (hu₀ := by
      iintro Hu
      ihave H := (launch_split (F := F)) $$ Hu
      icases H with ⟨HP, HX⟩
      imod (fund_rot m) $$ HX with HG
      imodintro
      isplitl [HP] <;> iassumption)
    (hglob := glob m)
    (hA := fun _ _ => rfl) (hpf := fun _ k => k.elim0)
    (X := fun c => start c m) (Y := fun c => Y c m) (Z := fun _ => iprop(emp))
    (hX := fun c => start_intro c m ρ) (hin := fun c => phi_intro c m ρ) (hout := fun c => phi_exit c m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => read_end c m s')
    (hQ := fun _ h hs => ⟨fun c => ⟨(h c).1, (h c).2.2.2⟩, sem_eq_zero hs fun c => (h c).2.2.1⟩)

/-- The `x` array after the run holds what it held; -/
theorem finalA_x : finalA c m ρ (0 : Fin 2) = m (win0_0.arr.view.loc (c : Thread nD τ)) :=
  (dats (F := F) m ρ 0 c).arrAt_in (0 : Fin 2) rfl _

/-- and the whole run, read at the arguments. -/
theorem quiescent : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c => ⟨((h.1 c).1 (0 : Fin 2)).trans (finalA_x c m ρ), (h.1 c).2⟩, h.2⟩) (machine_run m ρ)

end Cert.KernelIdeal.Rot

end
-- ==== Proof.Ideal.Value.lean ====
/-
What each device's result holds, read as real numbers: row `256·s + r` and column `j` of device `d`'s result is the
product of row `r` of device `s`'s rows with column `128·d + j` of the weight. With the devices' rows the blocks of one
matrix, that is device `d`'s column block of the whole product.
-/
module

public import proofs.«01_k».proof.Proof.Ideal.Launch
public import Idealize.ShloMosaic.PureOps.Ideal.Laws
public import Idealize.ShloMosaic.Lib.MatmulPlain
public import Idealize.ShloMosaic.Lib.StackMember
public import Idealize.ShloMosaic.Lib.Layout
public import Idealize.ShloMosaic.Lib.Pipeline.Value
public import Idealize.ShloMosaic.Lib.Pipeline.ValueKit

@[expose] public section

noncomputable section

namespace Cert.KernelIdeal.Rot

open Cert.KernelIdeal Cert.KernelIdeal.Gen
open Idealize.ShloMosaic hiding ix2 ix3 eq_ix2 eq_ix3
open Idealize.ShloMosaic.TcCoe Idealize.SL.Sem
open Idealize.ShloMosaic.ValueIdx Idealize.ShloMosaic.Pipeline

/-! ## The arithmetic, at an index -/

/-- A step's product at row `r`, column `q`. -/
theorem prod_apply (x : Vec Ideal S256x8192 .f32) (w : Vec Ideal S1x8192x512 .f32) (r : Fin 256) (q : Fin 512) :
    prod x w (ix2 r q) = ∑ k : Fin 8192, x (ix2 r k) * w (ix3 (0 : Fin 1) k q) := by
  unfold prod k0_pay1
  rw [show dot_S256x8192_S8192x512_S256x512_1_0_0_1_n_n = DotDims.plain 256 8192 512 from rfl]
  unfold matmul
  rw [Ideal.matmul_plain_apply, shapeCast_self]
  rw [show (constant (F := Ideal) S256x512 .f32 0x00000000#32 (ix2 r q)) = (0 : EReal) from Ideal.ofBits_zero_f32, zero_add]
  refine Finset.sum_congr rfl fun k _ => ?_
  congr 1
  refine shapeCast_apply _ _ _ _ ?_
  rw [Shape.rowMajor_val_three, Shape.rowMajor_val_two]
  show (0 * 8192 + k.val) * 512 + q.val = k.val * 512 + q.val
  omega

/-- A column block of it: narrowing changes nothing. -/
theorem colBlk_apply (j : Fin 4) (y : FVec Ideal S256x512 .f32) (r : Fin 256) (q : Fin 128) :
    colBlk j y (ix2 r q) = y (ix2 r (⟨128 * j.val + q.val, by omega⟩ : Fin 512)) := by
  show extractStridedSlice S256x128 ![0, 128 * j.val] y (col_slices j) (ix2 r q) = _
  refine extractStridedSlice_apply _ _ _ _ _ fun a => ?_
  fin_cases a
  · show r.val = 0 + r.val; omega
  · show 128 * j.val + q.val = 128 * j.val + q.val; rfl

/-- The received blocks one above the other: widening changes nothing. -/
theorem widen_apply (v : Vec Ideal S32x256x128 .bf16) (r : Fin 8192) (q : Fin 128) :
    widen v (ix2 r q) = v (ix3 (⟨r.val / 256, by omega⟩ : Fin 32) (⟨r.val % 256, by omega⟩ : Fin 256) q) := by
  show shapeCast S8192x128 v shapeCasts_S32x256x128_S8192x128 (ix2 r q) = _
  refine shapeCast_apply _ _ _ _ ?_
  rw [Shape.rowMajor_val_three, Shape.rowMajor_val_two]
  show (r.val / 256 * 256 + r.val % 256) * 128 + q.val = r.val * 128 + q.val
  omega

variable (m : (ℓ : Loc nD τ sig) → Buf (Elt Ideal) ℓ)

/-- The rows the device staged are its rows. -/
theorem xstg_apply (c : Dev nD) (i : S256x8192.Idx) : xstg m c i = m ((c : Thread nD τ).loc main_arg0) i := by
  unfold xstg
  rw [View.read_apply]
  show m ((c : Thread nD τ).loc main_arg0) ((win0_0.blk (0 : Fin 1)).view.emb i) = m ((c : Thread nD τ).loc main_arg0) i
  congr 1
  funext a
  exact Fin.ext (win0_0.rect_emb_val_of_index_zero (0 : Fin 1) a (by fin_cases a <;> rfl) i)

/-- The block device `c` computes for the device `s` places on, at row `r`, column `q`. -/
theorem blkOf_apply (c : Dev nD) (s : Fin 32) (r : Fin 256) (q : Fin 128) :
    blkOf m c s (ix2 r q) = ∑ k : Fin 8192, xstg m c (ix2 r k)
      * wmem m c (ix2 k (⟨128 * ((c.val + s.val) % 32) + q.val, by omega⟩ : Fin 4096)) := by
  unfold blkOf
  rw [colBlk_apply, prod_apply]
  refine Finset.sum_congr rfl fun k _ => ?_
  congr 1
  show wmem m c _ = wmem m c _
  congr 1
  congr 1
  refine Fin.ext ?_
  show 128 * ((c.val + 4 * (s.val / 4) + (128 * (s.val % 4) + q.val) / 128) % 32) + (128 * (s.val % 4) + q.val) % 128
    = 128 * ((c.val + s.val) % 32) + q.val
  rw [show c.val + 4 * (s.val / 4) + (128 * (s.val % 4) + q.val) / 128 = c.val + s.val by omega,
    show (128 * (s.val % 4) + q.val) % 128 = q.val by omega]

/-- Device `d`'s result at row `r`, column `q`. -/
theorem outAt_apply (d : Dev nD) (r : Fin 8192) (q : Fin 128) :
    outAt m d (ix2 r q) = ∑ k : Fin 8192,
      xstg m (⟨r.val / 256, by omega⟩ : Fin 32) (ix2 (⟨r.val % 256, by omega⟩ : Fin 256) k)
        * wmem m (⟨r.val / 256, by omega⟩ : Fin 32) (ix2 k (⟨128 * d.val + q.val, by have : d.val < 32 := d.isLt; omega⟩ : Fin 4096)) := by
  have hd : d.val < 32 := d.isLt
  unfold outAt
  rw [widen_apply]
  show blkOf m (⟨r.val / 256, by omega⟩ : Fin 32) (gap d (⟨r.val / 256, by omega⟩ : Fin 32)) (ix2 (⟨r.val % 256, by omega⟩ : Fin 256) q) = _
  rw [blkOf_apply]
  refine Finset.sum_congr rfl fun k _ => ?_
  congr 1
  congr 1
  congr 1
  refine Fin.ext ?_
  show 128 * ((r.val / 256 + (d.val + 32 - r.val / 256) % 32) % 32) + q.val = 128 * d.val + q.val
  rw [show (r.val / 256 + (d.val + 32 - r.val / 256) % 32) % 32 = d.val by omega]

/-! ## The whole product -/

/-- The product of the whole matrix with the weight. -/
def whole (X : (⟨2, ![8192, 8192]⟩ : Shape).Idx → EReal) (W : S8192x4096.Idx → EReal) : (⟨2, ![8192, 4096]⟩ : Shape).Idx → EReal :=
  Host.dotGeneral (F := Ideal) (φ₁ := .f32) (φ₂ := .f32) (DotDims.plain 8192 8192 4096) none X W

/-- Where the devices' rows are the row blocks of `X` and each holds the weight `W`, device `d`'s result is its column
    block of the whole product. -/
theorem outAt_block (X : (⟨2, ![8192, 8192]⟩ : Shape).Idx → EReal) (W : S8192x4096.Idx → EReal)
    (hx : ∀ c : Dev nD, m ((c : Thread nD τ).loc main_arg0) = Layout.block ⟨2, ![256, 8192]⟩ ⟨2, ![8192, 8192]⟩ 0 32 c X)
    (hw : ∀ c : Dev nD, m ((c : Thread nD τ).loc main_arg1) = W) (d : Dev nD) :
    outAt m d = Layout.block ⟨2, ![8192, 128]⟩ ⟨2, ![8192, 4096]⟩ 1 32 d (whole X W) := by
  have key : ∀ (r : Fin 8192) (q : Fin 128), outAt m d (ix2 r q)
      = (Layout.block ⟨2, ![8192, 128]⟩ ⟨2, ![8192, 4096]⟩ 1 32 d (whole X W)) (ix2 r q) := by
    intro r q
    have hd : d.val < 32 := d.isLt
    rw [outAt_apply, Layout.block_apply]
    rw [show (Layout.Tiles.idx (S := ⟨2, ![8192, 128]⟩) (T := ⟨2, ![8192, 4096]⟩) (a := 1) (k := 32) (by decide) d (ix2 r q))
      = ix2 r (⟨128 * d.val + q.val, by omega⟩ : Fin 4096) from ?_]
    · unfold whole
      rw [StackMember.dotGeneral_plain_apply]
      refine Finset.sum_congr rfl fun k _ => ?_
      rw [xstg_apply, hx]
      unfold wmem
      rw [hw]
      congr 1
      rw [Layout.block_apply]
      congr 1
      funext a; fin_cases a <;> refine Fin.ext ?_
      · show r.val / 256 * 256 + r.val % 256 = r.val; omega
      · rfl
    · funext a; fin_cases a <;> refine Fin.ext ?_
      · rfl
      · show d.val * 128 + q.val = 128 * d.val + q.val; omega
  funext i
  rw [eq_ix2 i]
  exact key (i 0) (i 1)

/-! ## The run, by value -/

variable (ρ : Dev nD → PrngReg)

/-- The result array after the run. -/
theorem finalA_out (c : Dev nD) : finalA c m ρ (1 : Fin 2) = outAt m c :=
  (dats (F := Ideal) m ρ 0 c).arrAt_eq_of_after_last (1 : Fin 2) t0_0 (by decide +kernel) _ fun j => rfl

/-- Every device ends with its column block of the whole product, its arguments unchanged. -/
theorem value_run (X : (⟨2, ![8192, 8192]⟩ : Shape).Idx → EReal) (W : S8192x4096.Idx → EReal)
    (hx : ∀ c : Dev nD, m ((c : Thread nD τ).loc main_arg0) = Layout.block ⟨2, ![256, 8192]⟩ ⟨2, ![8192, 8192]⟩ 0 32 c X)
    (hw : ∀ c : Dev nD, m ((c : Thread nD τ).loc main_arg1) = W) :
    θ_run defs (onTc (τ := τ) (main (F := Ideal))) (s₀ m ρ) (fun r => ∀ c : Dev nD,
      r.2.mem ((c.tc : Thread nD τ).loc main_v1) = Layout.block ⟨2, ![8192, 128]⟩ ⟨2, ![8192, 4096]⟩ 1 32 c (whole X W)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 (1 : Fin 2)).trans ((finalA_out m ρ c).trans (outAt_block m X W hx hw c)),
    ((h.1 c).1 (0 : Fin 2)).trans (finalA_x c m ρ), (h.1 c).2⟩) (machine_run m ρ)

end Cert.KernelIdeal.Rot

end
-- ==== Proof.lean ====
/-
The claims, put together: the two kernels' runs come from the launch modules (the machine's own floats, and the ideal
ones), the reference's from its printed run, and the values meet in the whole product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Ideal.Value
public import Idealize.ShloMosaic.Adequacy
public import Idealize.ShloMosaic.Init

@[expose] public section

noncomputable section

namespace Cert.Proof

open Idealize.ShloMosaic Idealize.SL.Sem Cert.Kernel

/-- The kernel runs, keeps its arguments, and ends with every counter at zero. -/
theorem frame_kernel : Cert.quiescent_Kernel := fun m g _ => Cert.Kernel.Rot.quiescent (F := Bits) m g

/-- So does its idealization. -/
theorem frame_ideal : Cert.quiescent_KernelIdeal := fun m g _ => Cert.KernelIdeal.Rot.quiescent (F := Ideal) m g

/-- The reference is one host operation and has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Each device's result is its column block of the reference's product. -/
theorem values : Cert.algebraic_KernelIdeal_ReferenceIdeal := fun m g m' g' _ hag =>
  ⟨Cert.KernelIdeal.Rot.whole _ _,
    Cert.KernelIdeal.Rot.value_run m g _ _ (fun c => (hag c).1) (fun c => (hag c).2),
    (θ_run Cert.ReferenceIdeal.defs _ _).mono (fun r h => ⟨(h 0).1, (h 0).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, values⟩

end Cert.Proof

end
